-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_scores [hPre_distinct_scores : Cert.Pre_distinct_scores.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_scores [hPre_distinct_scores : Cert.Pre_distinct_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_distinct_scores [hKernelIdeal : Cert.KernelIdeal.Facts] [hPre_distinct_scores : Cert.Pre_distinct_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_distinct_scores [hReferenceIdeal : Cert.ReferenceIdeal.Facts] [hPre_distinct_scores : Cert.Pre_distinct_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_layers" .f32 0x3DE38E39#32 ((9⁻¹ : ℝ) : EReal)
  ∧ IdealRules.named_const.Statement Cert.KernelIdeal.κ "inv_reach" .f32 0x3D74C867#32 (((Real.sqrt 280)⁻¹ : ℝ) : EReal)

def algebraic_KernelIdeal_ReferenceIdeal_pre_distinct_scores [hKernelIdeal : Cert.KernelIdeal.Facts] [hReferenceIdeal : Cert.ReferenceIdeal.Facts] [hPre_distinct_scores : Cert.Pre_distinct_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_distinct_scores : Cert.Pre_distinct_scores.Facts),
    quiescent_Kernel (hKernel := hKernel)
    ∧ quiescent_KernelIdeal (hKernelIdeal := hKernelIdeal)
    ∧ quiescent_KernelIdeal_pre_distinct_scores (hKernelIdeal := hKernelIdeal) (hPre_distinct_scores := hPre_distinct_scores)
    ∧ quiescent_ReferenceIdeal (hReferenceIdeal := hReferenceIdeal)
    ∧ quiescent_ReferenceIdeal_pre_distinct_scores (hReferenceIdeal := hReferenceIdeal) (hPre_distinct_scores := hPre_distinct_scores)
    ∧ preserves_Kernel_KernelIdeal
    ∧ algebraic_KernelIdeal_ReferenceIdeal_pre_distinct_scores (hKernelIdeal := hKernelIdeal) (hReferenceIdeal := hReferenceIdeal) (hPre_distinct_scores := hPre_distinct_scores)
-- ==== Pre_distinct_scores.lean ====
abbrev S4x577x1024 : Shape := ⟨3, ![4, 577, 1024]⟩
abbrev S9x4x577x1024 : Shape := ⟨4, ![9, 4, 577, 1024]⟩
abbrev S4x16x577x577 : Shape := ⟨4, ![4, 16, 577, 577]⟩
abbrev S4x16x1x576 : Shape := ⟨4, ![4, 16, 1, 576]⟩
abbrev S4x16x576 : Shape := ⟨3, ![4, 16, 576]⟩
abbrev S_ : Shape := ⟨0, ![]⟩
abbrev S4x576 : Shape := ⟨2, ![4, 576]⟩
abbrev S576 : Shape := ⟨1, ![576]⟩
abbrev S4x576x1 : Shape := ⟨3, ![4, 576, 1]⟩
abbrev S4x1x576 : Shape := ⟨3, ![4, 1, 576]⟩
abbrev S4x576x576 : Shape := ⟨3, ![4, 576, 576]⟩
abbrev S576x1 : Shape := ⟨2, ![576, 1]⟩
abbrev S1x576 : Shape := ⟨2, ![1, 576]⟩
abbrev S576x576 : Shape := ⟨2, ![576, 576]⟩
abbrev S1x576x576 : Shape := ⟨3, ![1, 576, 576]⟩

class Facts : Prop where
  slices_S4x16x577x577_S4x16x1x576_0_0_0_1 : S4x16x577x577.Slices ![0, 0, 0, 1] S4x16x1x576
  shapeCasts_S4x16x1x576_S4x16x576 : S4x16x1x576.ShapeCasts S4x16x576
  reducesTo_S4x16x576_S4x576_d1 : S4x16x576.ReducesTo [1] S4x576
  h_S_ : 0 < S_.numel
  bcast_S4x576_S4x576x1_0_1 : S4x576.BroadcastsInDim S4x576x1 (![0, 1] : Fin 2 → Fin S4x576x1.rank)
  bcast_S4x576_S4x1x576_0_2 : S4x576.BroadcastsInDim S4x1x576 (![0, 2] : Fin 2 → Fin S4x1x576.rank)
  bcast_S4x576x1_S4x576x576_0_1_2 : S4x576x1.BroadcastsInDim S4x576x576 (![0, 1, 2] : Fin 3 → Fin S4x576x576.rank)
  bcast_S4x1x576_S4x576x576_0_1_2 : S4x1x576.BroadcastsInDim S4x576x576 (![0, 1, 2] : Fin 3 → Fin S4x576x576.rank)
  bcast_S576_S576x1_0 : S576.BroadcastsInDim S576x1 (![0] : Fin 1 → Fin S576x1.rank)
  bcast_S576_S1x576_1 : S576.BroadcastsInDim S1x576 (![1] : Fin 1 → Fin S1x576.rank)
  bcast_S576x1_S576x576_0_1 : S576x1.BroadcastsInDim S576x576 (![0, 1] : Fin 2 → Fin S576x576.rank)
  bcast_S1x576_S576x576_0_1 : S1x576.BroadcastsInDim S576x576 (![0, 1] : Fin 2 → Fin S576x576.rank)
  bcast_S576x576_S1x576x576_1_2 : S576x576.BroadcastsInDim S1x576x576 (![1, 2] : Fin 2 → Fin S1x576x576.rank)
  bcast_S1x576x576_S4x576x576_0_1_2 : S1x576x576.BroadcastsInDim S4x576x576 (![0, 1, 2] : Fin 3 → Fin S4x576x576.rank)

variable [Facts]

def fn {F : FTy → Type} [FloatOps F] (main_arg0 : FVec F S4x577x1024 .f32) (main_arg1 : FVec F S9x4x577x1024 .f32) (main_arg2 : FVec F S4x16x577x577 .f32) : IVec S4x576x576 1 :=
  let main_v0 : FVec F S4x16x1x576 .f32 := (extractStridedSlice S4x16x1x576 ![0, 0, 0, 1] · slices_S4x16x577x577_S4x16x1x576_0_0_0_1) main_arg2
  let main_v1 : FVec F S4x16x576 .f32 := shapeCast S4x16x576 main_v0 shapeCasts_S4x16x1x576_S4x16x576
  let main_cst : FVec F S_ .f32 := constant S_ .f32 0x00000000#32
  let main_v2 : FVec F S4x576 .f32 := (fun x v => Host.reduceAdd x v reducesTo_S4x16x576_S4x576_d1 h_S_) main_v1 main_cst
  let main_v3 : IVec S576 32 := iotaInDim S576 32 0
  let main_v4 : FVec F S4x576x1 .f32 := broadcastInDim S4x576x1 ![0, 1] bcast_S4x576_S4x576x1_0_1 main_v2
  let main_v5 : FVec F S4x1x576 .f32 := broadcastInDim S4x1x576 ![0, 2] bcast_S4x576_S4x1x576_0_2 main_v2
  let main_v6 : FVec F S4x576x576 .f32 := broadcastInDim S4x576x576 ![0, 1, 2] bcast_S4x576x1_S4x576x576_0_1_2 main_v4
  let main_v7 : FVec F S4x576x576 .f32 := broadcastInDim S4x576x576 ![0, 1, 2] bcast_S4x1x576_S4x576x576_0_1_2 main_v5
  let main_v8 : IVec S4x576x576 1 := cmpf .une main_v6 main_v7
  let main_v9 : IVec S576x1 32 := broadcastInDim S576x1 ![0] bcast_S576_S576x1_0 main_v3
  let main_v10 : IVec S1x576 32 := broadcastInDim S1x576 ![1] bcast_S576_S1x576_1 main_v3
  let main_v11 : IVec S576x576 32 := broadcastInDim S576x576 ![0, 1] bcast_S576x1_S576x576_0_1 main_v9
  let main_v12 : IVec S576x576 32 := broadcastInDim S576x576 ![0, 1] bcast_S1x576_S576x576_0_1 main_v10
  let main_v13 : IVec S576x576 1 := cmpi .eq main_v11 main_v12
  let main_v14 : IVec S1x576x576 1 := broadcastInDim S1x576x576 ![1, 2] bcast_S576x576_S1x576x576_1_2 main_v13
  let main_v15 : IVec S4x576x576 1 := broadcastInDim S4x576x576 ![0, 1, 2] bcast_S1x576x576_S4x576x576_0_1_2 main_v14
  let main_v16 : IVec S4x576x576 1 := ori main_v8 main_v15
  main_v16
-- ==== Kernel.lean ====
abbrev S4x577x1024 : Shape := ⟨3, ![4, 577, 1024]⟩
abbrev S9x4x577x1024 : Shape := ⟨4, ![9, 4, 577, 1024]⟩
abbrev S4x16x577x577 : Shape := ⟨4, ![4, 16, 577, 577]⟩
abbrev S4x84x1024 : Shape := ⟨3, ![4, 84, 1024]⟩
abbrev S4x1x84 : Shape := ⟨3, ![4, 1, 84]⟩
abbrev S4x84 : Shape := ⟨2, ![4, 84]⟩
abbrev S9x577x1024 : Shape := ⟨3, ![9, 577, 1024]⟩
abbrev S577x1024 : Shape := ⟨2, ![577, 1024]⟩
abbrev S4x16x1x577 : Shape := ⟨4, ![4, 16, 1, 577]⟩
abbrev S9 : Shape := ⟨1, ![9]⟩
abbrev S4 : Shape := ⟨1, ![4]⟩
abbrev S1 : Shape := ⟨1, ![1]⟩
abbrev S_ : Shape := ⟨0, ![]⟩
abbrev S1x16x1x577 : Shape := ⟨4, ![1, 16, 1, 577]⟩
abbrev S16x1x577 : Shape := ⟨3, ![16, 1, 577]⟩
abbrev S1x577x1024 : Shape := ⟨3, ![1, 577, 1024]⟩
abbrev S1x577x512 : Shape := ⟨3, ![1, 577, 512]⟩
abbrev S577x512 : Shape := ⟨2, ![577, 512]⟩
abbrev S1x1x577x512 : Shape := ⟨4, ![1, 1, 577, 512]⟩
abbrev S1x577 : Shape := ⟨2, ![1, 577]⟩
abbrev S16x577 : Shape := ⟨2, ![16, 577]⟩
abbrev S577 : Shape := ⟨1, ![577]⟩
abbrev S577x577 : Shape := ⟨2, ![577, 577]⟩
abbrev S577x1 : Shape := ⟨2, ![577, 1]⟩
abbrev S84x577 : Shape := ⟨2, ![84, 577]⟩
abbrev S577x84 : Shape := ⟨2, ![577, 84]⟩
abbrev S84 : Shape := ⟨1, ![84]⟩
abbrev S1x84 : Shape := ⟨2, ![1, 84]⟩
abbrev S84x1 : Shape := ⟨2, ![84, 1]⟩
abbrev S1x1 : Shape := ⟨2, ![1, 1]⟩
abbrev S84x1024 : Shape := ⟨2, ![84, 1024]⟩
abbrev S1x84x1024 : Shape := ⟨3, ![1, 84, 1024]⟩
abbrev S1x1x84 : Shape := ⟨3, ![1, 1, 84]⟩

abbrev nBuf : Space → Nat
  | .hbm => 6
  | .vmem => 6
  | .smem => 0
  | _ => 0

abbrev bufTy : (tb : Table) → Fin (tcTables nBuf tb) → BufTy
  | .hbm, ⟨0, _⟩ => ⟨S4x577x1024, .f32⟩
  | .hbm, ⟨1, _⟩ => ⟨S9x4x577x1024, .f32⟩
  | .hbm, ⟨2, _⟩ => ⟨S4x16x577x577, .f32⟩
  | .hbm, ⟨3, _⟩ => ⟨S4x84x1024, .f32⟩
  | .hbm, ⟨4, _⟩ => ⟨S4x1x84, .i32⟩
  | .hbm, ⟨5, _⟩ => ⟨S4x84, .i32⟩
  | .local _ .vmem, ⟨0, _⟩ => ⟨S4x84x1024, .f32⟩
  | .local _ .vmem, ⟨1, _⟩ => ⟨S4x1x84, .i32⟩
  | .local _ .vmem, ⟨2, _⟩ => ⟨S9x577x1024, .f32⟩
  | .local _ .vmem, ⟨3, _⟩ => ⟨S577x1024, .f32⟩
  | .local _ .vmem, ⟨4, _⟩ => ⟨S4x577x1024, .f32⟩
  | .local _ .vmem, ⟨5, _⟩ => ⟨S4x16x1x577, .f32⟩
  | _, _ => ⟨S4x577x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_call0_v0_1 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x84x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1x84 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "inv_layers" => some ((9⁻¹ : ℝ) : EReal)
  | "inv_reach" => some (((Real.sqrt 280)⁻¹ : ℝ) : EReal)
  | _ => none
-- ==== ReferenceIdeal.lean ====
abbrev S4x577x1024 : Shape := ⟨3, ![4, 577, 1024]⟩
abbrev S9x4x577x1024 : Shape := ⟨4, ![9, 4, 577, 1024]⟩
abbrev S4x16x577x577 : Shape := ⟨4, ![4, 16, 577, 577]⟩
abbrev S24 : Shape := ⟨1, ![24]⟩
abbrev S24x24 : Shape := ⟨2, ![24, 24]⟩
abbrev S24x24x1 : Shape := ⟨3, ![24, 24, 1]⟩
abbrev S24x24x2 : Shape := ⟨3, ![24, 24, 2]⟩
abbrev S576x2 : Shape := ⟨2, ![576, 2]⟩
abbrev S576x1x2 : Shape := ⟨3, ![576, 1, 2]⟩
abbrev S1x576x2 : Shape := ⟨3, ![1, 576, 2]⟩
abbrev S576x576x2 : Shape := ⟨3, ![576, 576, 2]⟩
abbrev S_ : Shape := ⟨0, ![]⟩
abbrev S576x576 : Shape := ⟨2, ![576, 576]⟩
abbrev S4x16x1x576 : Shape := ⟨4, ![4, 16, 1, 576]⟩
abbrev S4x16x576 : Shape := ⟨3, ![4, 16, 576]⟩
abbrev S4x576 : Shape := ⟨2, ![4, 576]⟩
abbrev S4x24x24 : Shape := ⟨3, ![4, 24, 24]⟩
abbrev S4x12x2x12x2 : Shape := ⟨5, ![4, 12, 2, 12, 2]⟩
abbrev S4x12x12x2x2 : Shape := ⟨5, ![4, 12, 12, 2, 2]⟩
abbrev S4x144x4 : Shape := ⟨3, ![4, 144, 4]⟩
abbrev S4x144x3 : Shape := ⟨3, ![4, 144, 3]⟩
abbrev S144 : Shape := ⟨1, ![144]⟩
abbrev S1x144 : Shape := ⟨2, ![1, 144]⟩
abbrev S1x144x1 : Shape := ⟨3, ![1, 144, 1]⟩
abbrev S4x432 : Shape := ⟨2, ![4, 432]⟩
abbrev S4x432x1 : Shape := ⟨3, ![4, 432, 1]⟩
abbrev S4x84 : Shape := ⟨2, ![4, 84]⟩
abbrev S4x84x1 : Shape := ⟨3, ![4, 84, 1]⟩
abbrev S4x576x1024 : Shape := ⟨3, ![4, 576, 1024]⟩
abbrev S4x576x1 : Shape := ⟨3, ![4, 576, 1]⟩
abbrev S4x576x576 : Shape := ⟨3, ![4, 576, 576]⟩
abbrev S1x576x576 : Shape := ⟨3, ![1, 576, 576]⟩
abbrev S4x1 : Shape := ⟨2, ![4, 1]⟩
abbrev S1x1x576 : Shape := ⟨3, ![1, 1, 576]⟩
abbrev S4x84x576 : Shape := ⟨3, ![4, 84, 576]⟩
abbrev S4x84x1024 : Shape := ⟨3, ![4, 84, 1024]⟩

abbrev nBuf : Space → Nat
  | .hbm => 257
  | .vmem => 0
  | .smem => 0
  | _ => 0

abbrev hbmTy0_0 (i : Nat) : BufTy := match i % 128 with
  | 0 => ⟨S4x577x1024, .f32⟩
  | 1 => ⟨S9x4x577x1024, .f32⟩
  | 2 => ⟨S4x16x577x577, .f32⟩
  | 3 => ⟨S24, .i32⟩
  | 4 => ⟨S24, .i32⟩
  | 5 => ⟨S24x24, .i32⟩
  | 6 => ⟨S24x24, .i32⟩
  | 7 => ⟨S24x24x1, .i32⟩
  | 8 => ⟨S24x24x1, .i32⟩
  | 9 => ⟨S24x24x2, .i32⟩
  | 10 => ⟨S576x2, .i32⟩
  | 11 => ⟨S576x2, .f32⟩
  | 12 => ⟨S576x1x2, .f32⟩
  | 13 => ⟨S1x576x2, .f32⟩
  | 14 => ⟨S576x576x2, .f32⟩
  | 15 => ⟨S576x576x2, .f32⟩
  | 16 => ⟨S576x576x2, .f32⟩
  | 17 => ⟨S576x576x2, .f32⟩
  | 18 => ⟨S_, .f32⟩
  | 19 => ⟨S576x576, .f32⟩
  | 20 => ⟨S576x576, .f32⟩
  | 21 => ⟨S_, .f32⟩
  | 22 => ⟨S_, .f32⟩
  | 23 => ⟨S576x576, .f32⟩
  | 24 => ⟨S576x576, .f32⟩
  | 25 => ⟨S_, .f32⟩
  | 26 => ⟨S576x576, .f32⟩
  | 27 => ⟨S576x576, .f32⟩
  | 28 => ⟨S_, .f32⟩
  | 29 => ⟨S576x576, .f32⟩
  | 30 => ⟨S576x576, .f32⟩
  | 31 => ⟨S4x16x1x576, .f32⟩
  | 32 => ⟨S4x16x576, .f32⟩
  | 33 => ⟨S_, .f32⟩
  | 34 => ⟨S4x576, .f32⟩
  | 35 => ⟨S4x24x24, .f32⟩
  | 36 => ⟨S4x12x2x12x2, .f32⟩
  | 37 => ⟨S4x12x12x2x2, .f32⟩
  | 38 => ⟨S4x144x4, .f32⟩
  | 39 => ⟨S4x144x3, .f32⟩
  | 40 => ⟨S4x144x3, .i32⟩
  | 41 => ⟨S_, .i32⟩
  | 42 => ⟨S_, .i32⟩
  | 43 => ⟨S4x144x3, .i32⟩
  | 44 => ⟨S4x144x3, .i32⟩
  | 45 => ⟨S4x144x3, .i32⟩
  | 46 => ⟨S_, .i32⟩
  | 47 => ⟨S4x144x3, .i32⟩
  | 48 => ⟨S4x144x3, .i1⟩
  | 49 => ⟨S4x144x3, .i32⟩
  | 50 => ⟨S4x144x3, .i32⟩
  | 51 => ⟨S_, .i32⟩
  | 52 => ⟨S4x144x3, .i32⟩
  | 53 => ⟨S4x144x3, .i1⟩
  | 54 => ⟨S4x144x3, .i1⟩
  | 55 => ⟨S_, .i32⟩
  | 56 => ⟨S4x144x3, .i32⟩
  | 57 => ⟨S4x144x3, .i32⟩
  | 58 => ⟨S4x144x3, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S4x144x3, .i32⟩
  | 66 => ⟨S4x144x3, .i32⟩
  | 67 => ⟨S_, .i32⟩
  | 68 => ⟨S4x144x3, .i32⟩
  | 69 => ⟨S4x144x3, .i1⟩
  | 70 => ⟨S_, .i32⟩
  | 71 => ⟨S4x144x3, .i32⟩
  | 72 => ⟨S4x144x3, .i1⟩
  | 73 => ⟨S_, .i32⟩
  | 74 => ⟨S_, .i1⟩
  | 75 => ⟨S4x144x3, .i1⟩
  | 76 => ⟨S4x144x3, .i1⟩
  | 77 => ⟨S4x144x3, .i1⟩
  | 78 => ⟨S4x144x3, .i32⟩
  | 79 => ⟨S4x144x3, .i32⟩
  | 80 => ⟨S4x144x3, .i32⟩
  | 81 => ⟨S144, .i32⟩
  | 82 => ⟨S1x144, .i32⟩
  | 83 => ⟨S_, .i32⟩
  | 84 => ⟨S_, .i32⟩
  | 85 => ⟨S1x144, .i32⟩
  | 86 => ⟨S1x144, .i32⟩
  | 87 => ⟨S1x144, .i32⟩
  | 88 => ⟨S_, .i32⟩
  | 89 => ⟨S1x144, .i32⟩
  | 90 => ⟨S1x144, .i1⟩
  | 91 => ⟨S1x144, .i32⟩
  | 92 => ⟨S1x144, .i32⟩
  | 93 => ⟨S_, .i32⟩
  | 94 => ⟨S1x144, .i32⟩
  | 95 => ⟨S1x144, .i1⟩
  | 96 => ⟨S1x144, .i1⟩
  | 97 => ⟨S_, .i32⟩
  | 98 => ⟨S1x144, .i32⟩
  | 99 => ⟨S1x144, .i32⟩
  | 100 => ⟨S1x144, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S1x144, .i32⟩
  | 108 => ⟨S1x144, .i32⟩
  | 109 => ⟨S_, .i32⟩
  | 110 => ⟨S1x144, .i32⟩
  | 111 => ⟨S1x144, .i1⟩
  | 112 => ⟨S_, .i32⟩
  | 113 => ⟨S1x144, .i32⟩
  | 114 => ⟨S1x144, .i1⟩
  | 115 => ⟨S_, .i32⟩
  | 116 => ⟨S_, .i1⟩
  | 117 => ⟨S1x144, .i1⟩
  | 118 => ⟨S1x144, .i1⟩
  | 119 => ⟨S1x144, .i1⟩
  | 120 => ⟨S1x144, .i32⟩
  | 121 => ⟨S1x144, .i32⟩
  | 122 => ⟨S1x144, .i32⟩
  | 123 => ⟨S1x144x1, .i32⟩
  | 124 => ⟨S_, .i32⟩
  | 125 => ⟨S1x144x1, .i32⟩
  | 126 => ⟨S1x144x1, .i32⟩
  | 127 => ⟨S4x144x3, .i32⟩
  | _ => ⟨S4x577x1024, .f32⟩

abbrev hbmTy0_1 (i : Nat) : BufTy := match i % 128 with
  | 0 => ⟨S4x144x3, .i32⟩
  | 1 => ⟨S1x144x1, .i32⟩
  | 2 => ⟨S_, .i32⟩
  | 3 => ⟨S1x144x1, .i32⟩
  | 4 => ⟨S1x144x1, .i32⟩
  | 5 => ⟨S4x144x3, .i32⟩
  | 6 => ⟨S4x144x3, .i32⟩
  | 7 => ⟨S_, .i32⟩
  | 8 => ⟨S4x144x3, .i32⟩
  | 9 => ⟨S4x144x3, .i32⟩
  | 10 => ⟨S4x144x3, .i32⟩
  | 11 => ⟨S4x432, .i32⟩
  | 12 => ⟨S_, .i32⟩
  | 13 => ⟨S4x432, .i32⟩
  | 14 => ⟨S4x432, .i1⟩
  | 15 => ⟨S_, .i32⟩
  | 16 => ⟨S4x432, .i32⟩
  | 17 => ⟨S4x432, .i32⟩
  | 18 => ⟨S4x432, .i32⟩
  | 19 => ⟨S4x432x1, .i32⟩
  | 20 => ⟨S4x432, .f32⟩
  | 21 => ⟨S4x84, .f32⟩
  | 22 => ⟨S4x84, .i32⟩
  | 23 => ⟨S_, .i32⟩
  | 24 => ⟨S4x84, .i32⟩
  | 25 => ⟨S4x84, .i1⟩
  | 26 => ⟨S_, .i32⟩
  | 27 => ⟨S4x84, .i32⟩
  | 28 => ⟨S4x84, .i32⟩
  | 29 => ⟨S4x84, .i32⟩
  | 30 => ⟨S4x84x1, .i32⟩
  | 31 => ⟨S4x84, .i32⟩
  | 32 => ⟨S4x84, .i32⟩
  | 33 => ⟨S_, .f32⟩
  | 34 => ⟨S4x577x1024, .f32⟩
  | 35 => ⟨S_, .f32⟩
  | 36 => ⟨S4x577x1024, .f32⟩
  | 37 => ⟨S4x577x1024, .f32⟩
  | 38 => ⟨S4x576x1024, .f32⟩
  | 39 => ⟨S4x576x1024, .f32⟩
  | 40 => ⟨S_, .f32⟩
  | 41 => ⟨S4x576, .f32⟩
  | 42 => ⟨S4x576x1, .f32⟩
  | 43 => ⟨S4x576x1, .f32⟩
  | 44 => ⟨S_, .f32⟩
  | 45 => ⟨S4x576x1, .f32⟩
  | 46 => ⟨S4x576x1, .f32⟩
  | 47 => ⟨S4x576x1024, .f32⟩
  | 48 => ⟨S4x576x1024, .f32⟩
  | 49 => ⟨S4x576x576, .f32⟩
  | 50 => ⟨S_, .f32⟩
  | 51 => ⟨S4x576x576, .f32⟩
  | 52 => ⟨S4x576x576, .f32⟩
  | 53 => ⟨S1x576x576, .f32⟩
  | 54 => ⟨S4x576x576, .f32⟩
  | 55 => ⟨S4x576x576, .f32⟩
  | 56 => ⟨S_, .i32⟩
  | 57 => ⟨S4x84, .i32⟩
  | 58 => ⟨S4x84, .i1⟩
  | 59 => ⟨S_, .i32⟩
  | 60 => ⟨S4x84, .i32⟩
  | 61 => ⟨S4x84, .i32⟩
  | 62 => ⟨S4x84, .i32⟩
  | 63 => ⟨S4x84x1, .i32⟩
  | 64 => ⟨S4x84, .f32⟩
  | 65 => ⟨S4x84, .f32⟩
  | 66 => ⟨S_, .f32⟩
  | 67 => ⟨S_, .f32⟩
  | 68 => ⟨S_, .f32⟩
  | 69 => ⟨S_, .f32⟩
  | 70 => ⟨S_, .f32⟩
  | 71 => ⟨S4x1, .f32⟩
  | 72 => ⟨S_, .f32⟩
  | 73 => ⟨S_, .f32⟩
  | 74 => ⟨S4x1, .f32⟩
  | 75 => ⟨S4x1, .f32⟩
  | 76 => ⟨S4x1, .f32⟩
  | 77 => ⟨S4x1, .f32⟩
  | 78 => ⟨S4x1, .f32⟩
  | 79 => ⟨S4x1, .f32⟩
  | 80 => ⟨S4x84, .f32⟩
  | 81 => ⟨S4x84, .i1⟩
  | 82 => ⟨S4x84x1, .i32⟩
  | 83 => ⟨S1x1x576, .i32⟩
  | 84 => ⟨S4x84x576, .i32⟩
  | 85 => ⟨S4x84x576, .i32⟩
  | 86 => ⟨S4x84x576, .i1⟩
  | 87 => ⟨S4x84x576, .f32⟩
  | 88 => ⟨S4x84x1, .i1⟩
  | 89 => ⟨S_, .f32⟩
  | 90 => ⟨S_, .f32⟩
  | 91 => ⟨S4x84x1, .f32⟩
  | 92 => ⟨S4x84x1, .f32⟩
  | 93 => ⟨S4x84x1, .f32⟩
  | 94 => ⟨S_, .f32⟩
  | 95 => ⟨S4x84x576, .f32⟩
  | 96 => ⟨S4x84x576, .i1⟩
  | 97 => ⟨S_, .f32⟩
  | 98 => ⟨S4x84x576, .f32⟩
  | 99 => ⟨S4x84x576, .f32⟩
  | 100 => ⟨S4x84x576, .f32⟩
  | 101 => ⟨S4x84x1, .i32⟩
  | 102 => ⟨S_, .i32⟩
  | 103 => ⟨S4x84x1, .i32⟩
  | 104 => ⟨S4x84x1, .i1⟩
  | 105 => ⟨S_, .i32⟩
  | 106 => ⟨S4x84x1, .i32⟩
  | 107 => ⟨S4x84x1, .i32⟩
  | 108 => ⟨S4x84x1, .i32⟩
  | 109 => ⟨S4x84x576, .f32⟩
  | 110 => ⟨S4x84x576, .f32⟩
  | 111 => ⟨S4x84x576, .f32⟩
  | 112 => ⟨S_, .f32⟩
  | 113 => ⟨S4x84, .f32⟩
  | 114 => ⟨S4x84x1, .f32⟩
  | 115 => ⟨S_, .f32⟩
  | 116 => ⟨S4x84x1, .f32⟩
  | 117 => ⟨S4x84x1, .f32⟩
  | 118 => ⟨S4x84x576, .f32⟩
  | 119 => ⟨S4x84x576, .f32⟩
  | 120 => ⟨S_, .f32⟩
  | 121 => ⟨S4x84x576, .f32⟩
  | 122 => ⟨S4x84x576, .i1⟩
  | 123 => ⟨S_, .f32⟩
  | 124 => ⟨S_, .f32⟩
  | 125 => ⟨S4x84x576, .f32⟩
  | 126 => ⟨S4x84x576, .f32⟩
  | 127 => ⟨S4x576x1024, .f32⟩
  | _ => ⟨S4x577x1024, .f32⟩

abbrev hbmTy0_2 (i : Nat) : BufTy := match i % 128 with
  | 0 => ⟨S4x84x1024, .f32⟩
  | _ => ⟨S4x577x1024, .f32⟩

abbrev hbmTy (i : Nat) : BufTy := match i / 128 with
  | 0 => hbmTy0_0 i
  | 1 => hbmTy0_1 i
  | 2 => hbmTy0_2 i
  | _ => ⟨S4x577x1024, .f32⟩

abbrev bufTy : (tb : Table) → Fin (tcTables nBuf tb) → BufTy
  | .hbm, ⟨i, _⟩ => hbmTy i
  | _, _ => ⟨S4x577x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_values : Ref sig .tc := ⟨.hbm, 39, rfl⟩
abbrev main_indices : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v31 : Ref sig .tc := ⟨.hbm, 58, rfl⟩
abbrev main_c_4 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_1 : Ref sig .tc := ⟨.hbm, 67, rfl⟩
abbrev main_call1_v5 : Ref sig .tc := ⟨.hbm, 68, rfl⟩
abbrev main_call1_v6 : Ref sig .tc := ⟨.hbm, 69, rfl⟩
abbrev main_call1_c_2 : Ref sig .tc := ⟨.hbm, 70, rfl⟩
abbrev main_call1_v7 : Ref sig .tc := ⟨.hbm, 71, rfl⟩
abbrev main_call1_v8 : Ref sig .tc := ⟨.hbm, 72, rfl⟩
abbrev main_call1_c_3 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_c_5 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_c : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_0 : Ref sig .tc := ⟨.hbm, 97, rfl⟩
abbrev main_call2_v12 : Ref sig .tc := ⟨.hbm, 98, rfl⟩
abbrev main_call2_v13 : Ref sig .tc := ⟨.hbm, 99, rfl⟩
abbrev main_v35 : Ref sig .tc := ⟨.hbm, 100, rfl⟩
abbrev main_c_6 : Ref sig .tc := ⟨.hbm, 101, rfl⟩
abbrev main_call3_v0 : Ref sig .tc := ⟨.hbm, 102, rfl⟩
abbrev main_call3_c : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_c_1 : Ref sig .tc := ⟨.hbm, 109, rfl⟩
abbrev main_call3_v5 : Ref sig .tc := ⟨.hbm, 110, rfl⟩
abbrev main_call3_v6 : Ref sig .tc := ⟨.hbm, 111, rfl⟩
abbrev main_call3_c_2 : Ref sig .tc := ⟨.hbm, 112, rfl⟩
abbrev main_call3_v7 : Ref sig .tc := ⟨.hbm, 113, rfl⟩
abbrev main_call3_v8 : Ref sig .tc := ⟨.hbm, 114, rfl⟩
abbrev main_call3_c_3 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_v36 : Ref sig .tc := ⟨.hbm, 122, rfl⟩
abbrev main_v37 : Ref sig .tc := ⟨.hbm, 123, rfl⟩
abbrev main_c_7 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_c_8 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_c_9 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_call4_c : Ref sig .tc := ⟨.hbm, 140, rfl⟩
abbrev main_call4_v0 : Ref sig .tc := ⟨.hbm, 141, rfl⟩
abbrev main_call4_v1 : Ref sig .tc := ⟨.hbm, 142, rfl⟩
abbrev main_call4_c_0 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_v51 : Ref sig .tc := ⟨.hbm, 148, rfl⟩
abbrev main_values_10 : Ref sig .tc := ⟨.hbm, 149, rfl⟩
abbrev main_indices_11 : Ref sig .tc := ⟨.hbm, 150, rfl⟩
abbrev main_call5_c : Ref sig .tc := ⟨.hbm, 151, rfl⟩
abbrev main_call5_v0 : Ref sig .tc := ⟨.hbm, 152, rfl⟩
abbrev main_call5_v1 : Ref sig .tc := ⟨.hbm, 153, rfl⟩
abbrev main_call5_c_0 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_call5_v5 : Ref sig .tc := ⟨.hbm, 158, rfl⟩
abbrev main_v52 : Ref sig .tc := ⟨.hbm, 159, rfl⟩
abbrev main_v53 : Ref sig .tc := ⟨.hbm, 160, rfl⟩
abbrev main_cst_12 : Ref sig .tc := ⟨.hbm, 161, rfl⟩
abbrev main_v54 : Ref sig .tc := ⟨.hbm, 162, rfl⟩
abbrev main_cst_13 : Ref sig .tc := ⟨.hbm, 163, rfl⟩
abbrev main_v55 : Ref sig .tc := ⟨.hbm, 164, rfl⟩
abbrev main_v56 : Ref sig .tc := ⟨.hbm, 165, rfl⟩
abbrev main_v57 : Ref sig .tc := ⟨.hbm, 166, rfl⟩
abbrev main_call7_v0 : Ref sig .tc := ⟨.hbm, 167, rfl⟩
abbrev main_call7_cst : Ref sig .tc := ⟨.hbm, 168, rfl⟩
abbrev main_call7_v1 : Ref sig .tc := ⟨.hbm, 169, rfl⟩
abbrev main_call7_v2 : Ref sig .tc := ⟨.hbm, 170, rfl⟩
abbrev main_v58 : Ref sig .tc := ⟨.hbm, 171, rfl⟩
abbrev main_cst_14 : Ref sig .tc := ⟨.hbm, 172, rfl⟩
abbrev main_v59 : Ref sig .tc := ⟨.hbm, 173, rfl⟩
abbrev main_v60 : Ref sig .tc := ⟨.hbm, 174, rfl⟩
abbrev main_v61 : Ref sig .tc := ⟨.hbm, 175, rfl⟩
abbrev main_v62 : Ref sig .tc := ⟨.hbm, 176, rfl⟩
abbrev main_v63 : Ref sig .tc := ⟨.hbm, 177, rfl⟩
abbrev main_call8_cst : Ref sig .tc := ⟨.hbm, 178, rfl⟩
abbrev main_call8_v0 : Ref sig .tc := ⟨.hbm, 179, rfl⟩
abbrev main_v64 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_call9_c : Ref sig .tc := ⟨.hbm, 184, rfl⟩
abbrev main_call9_v0 : Ref sig .tc := ⟨.hbm, 185, rfl⟩
abbrev main_call9_v1 : Ref sig .tc := ⟨.hbm, 186, rfl⟩
abbrev main_call9_c_0 : Ref sig .tc := ⟨.hbm, 187, rfl⟩
abbrev main_call9_v2 : Ref sig .tc := ⟨.hbm, 188, rfl⟩
abbrev main_call9_v3 : Ref sig .tc := ⟨.hbm, 189, rfl⟩
abbrev main_call9_v4 : Ref sig .tc := ⟨.hbm, 190, rfl⟩
abbrev main_call9_v5 : Ref sig .tc := ⟨.hbm, 191, rfl⟩
abbrev main_v68 : Ref sig .tc := ⟨.hbm, 192, rfl⟩
abbrev main_v69 : Ref sig .tc := ⟨.hbm, 193, rfl⟩
abbrev main_cst_15 : Ref sig .tc := ⟨.hbm, 194, rfl⟩
abbrev main_cst_16 : Ref sig .tc := ⟨.hbm, 195, rfl⟩
abbrev main_v70 : Ref sig .tc := ⟨.hbm, 196, rfl⟩
abbrev main_cst_17 : Ref sig .tc := ⟨.hbm, 197, rfl⟩
abbrev main_v71 : Ref sig .tc := ⟨.hbm, 198, rfl⟩
abbrev main_v72 : Ref sig .tc := ⟨.hbm, 199, rfl⟩
abbrev main_cst_18 : Ref sig .tc := ⟨.hbm, 200, rfl⟩
abbrev main_v73 : Ref sig .tc := ⟨.hbm, 201, rfl⟩
abbrev main_v74 : Ref sig .tc := ⟨.hbm, 202, rfl⟩
abbrev main_v75 : Ref sig .tc := ⟨.hbm, 203, rfl⟩
abbrev main_v76 : Ref sig .tc := ⟨.hbm, 204, rfl⟩
abbrev main_v77 : Ref sig .tc := ⟨.hbm, 205, rfl⟩
abbrev main_v78 : Ref sig .tc := ⟨.hbm, 206, rfl⟩
abbrev main_v79 : Ref sig .tc := ⟨.hbm, 207, rfl⟩
abbrev main_v80 : Ref sig .tc := ⟨.hbm, 208, rfl⟩
abbrev main_v81 : Ref sig .tc := ⟨.hbm, 209, rfl⟩
abbrev main_call11_v0 : Ref sig .tc := ⟨.hbm, 210, rfl⟩
abbrev main_call11_v1 : Ref sig .tc := ⟨.hbm, 211, rfl⟩
abbrev main_call11_v2 : Ref sig .tc := ⟨.hbm, 212, rfl⟩
abbrev main_call11_v3 : Ref sig .tc := ⟨.hbm, 213, rfl⟩
abbrev main_call11_v4 : Ref sig .tc := ⟨.hbm, 214, rfl⟩
abbrev main_v82 : Ref sig .tc := ⟨.hbm, 215, rfl⟩
abbrev main_v83 : Ref sig .tc := ⟨.hbm, 216, rfl⟩
abbrev main_cst_19 : Ref sig .tc := ⟨.hbm, 217, rfl⟩
abbrev main_cst_20 : Ref sig .tc := ⟨.hbm, 218, rfl⟩
abbrev main_call12_v0 : Ref sig .tc := ⟨.hbm, 219, rfl⟩
abbrev main_call12_v1 : Ref sig .tc := ⟨.hbm, 220, rfl⟩
abbrev main_v84 : Ref sig .tc := ⟨.hbm, 221, rfl⟩
abbrev main_cst_21 : Ref sig .tc := ⟨.hbm, 222, rfl⟩
abbrev main_v85 : Ref sig .tc := ⟨.hbm, 223, rfl⟩
abbrev main_v86 : Ref sig .tc := ⟨.hbm, 224, rfl⟩
abbrev main_cst_22 : Ref sig .tc := ⟨.hbm, 225, rfl⟩
abbrev main_call13_v0 : Ref sig .tc := ⟨.hbm, 226, rfl⟩
abbrev main_call13_v1 : Ref sig .tc := ⟨.hbm, 227, rfl⟩
abbrev main_v87 : Ref sig .tc := ⟨.hbm, 228, rfl⟩
abbrev main_v88 : Ref sig .tc := ⟨.hbm, 229, rfl⟩
abbrev main_call14_c : Ref sig .tc := ⟨.hbm, 230, rfl⟩
abbrev main_call14_v0 : Ref sig .tc := ⟨.hbm, 231, rfl⟩
abbrev main_call14_v1 : Ref sig .tc := ⟨.hbm, 232, rfl⟩
abbrev main_call14_c_0 : Ref sig .tc := ⟨.hbm, 233, rfl⟩
abbrev main_call14_v2 : Ref sig .tc := ⟨.hbm, 234, rfl⟩
abbrev main_call14_v3 : Ref sig .tc := ⟨.hbm, 235, rfl⟩
abbrev main_call14_v4 : Ref sig .tc := ⟨.hbm, 236, rfl⟩
abbrev main_v89 : Ref sig .tc := ⟨.hbm, 237, rfl⟩
abbrev main_v90 : Ref sig .tc := ⟨.hbm, 238, rfl⟩
abbrev main_v91 : Ref sig .tc := ⟨.hbm, 239, rfl⟩
abbrev main_cst_23 : Ref sig .tc := ⟨.hbm, 240, rfl⟩
abbrev main_v92 : Ref sig .tc := ⟨.hbm, 241, rfl⟩
abbrev main_v93 : Ref sig .tc := ⟨.hbm, 242, rfl⟩
abbrev main_cst_24 : Ref sig .tc := ⟨.hbm, 243, rfl⟩
abbrev main_v94 : Ref sig .tc := ⟨.hbm, 244, rfl⟩
abbrev main_v95 : Ref sig .tc := ⟨.hbm, 245, rfl⟩
abbrev main_v96 : Ref sig .tc := ⟨.hbm, 246, rfl⟩
abbrev main_v97 : Ref sig .tc := ⟨.hbm, 247, rfl⟩
abbrev main_cst_25 : Ref sig .tc := ⟨.hbm, 248, rfl⟩
abbrev main_v98 : Ref sig .tc := ⟨.hbm, 249, rfl⟩
abbrev main_v99 : Ref sig .tc := ⟨.hbm, 250, rfl⟩
abbrev main_cst_26 : Ref sig .tc := ⟨.hbm, 251, rfl⟩
abbrev main_call15_v0 : Ref sig .tc := ⟨.hbm, 252, rfl⟩
abbrev main_call15_v1 : Ref sig .tc := ⟨.hbm, 253, rfl⟩
abbrev main_v100 : Ref sig .tc := ⟨.hbm, 254, rfl⟩
abbrev main_v101 : Ref sig .tc := ⟨.hbm, 255, rfl⟩
abbrev main_v102 : Ref sig .tc := ⟨.hbm, 256, rfl⟩

abbrev nD : Nat := 1
abbrev τ : Topo := Topo.v7x

variable {F : FTy → Type} [FloatOps F]
-- ==== Proof.Setup.lean ====
/- The launch set-up of the idealized kernel's run: @main around its one region, the contents each argument array has there
   and keeps through the host reshape after it, the body's memrefs, and the invariant the body is run under, listed conjunct
   by conjunct. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s TensorCore buffer contents when the region is entered, as a valuation: after the host operations before
    the region (none here). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-! ## The kernel body on any staging memrefs: a subtype the run finds -/

/-- Each window's current staging memref at point `t`, spelled as the pipeline passes it (`bodyAt0`), and its wholeness. -/
abbrev ms0_0 (t : Fin cfg0.N) : Memref sig .tc .vmem S4x84x1024 .f32 := win0_0.stage (cfg0.slots t 0)
abbrev hs0_0 (t : Fin cfg0.N) : (ms0_0 t).IsWhole := hstage0_0 0
abbrev ms0_1 (t : Fin cfg0.N) : Memref sig .tc .vmem S4x1x84 .i32 := win0_1.stage (cfg0.slots t 1)
abbrev hs0_1 (t : Fin cfg0.N) : (ms0_1 t).IsWhole := hstage0_1 0
/-- The scratch operands: whole scoped buffers of the kernel's own, passed beside the windows. -/
abbrev scM0_0 : Memref sig .tc .vmem S9x577x1024 .f32 := Memref.whole cc0_scratch0
abbrev scM0_1 : Memref sig .tc .vmem S577x1024 .f32 := Memref.whole cc0_scratch1
abbrev scM0_2 : Memref sig .tc .vmem S4x577x1024 .f32 := Memref.whole cc0_scratch2
abbrev scM0_3 : Memref sig .tc .vmem S4x16x1x577 .f32 := Memref.whole cc0_scratch3
/-- The operands left in HBM that the body copies into scratch itself, whole. -/
abbrev hbM0_0 : Memref sig .tc .hbm S4x16x577x577 .f32 := Memref.whole main_arg2
abbrev hbM0_1 : Memref sig .tc .hbm S9x4x577x1024 .f32 := Memref.whole main_arg1
abbrev hbM0_2 : Memref sig .tc .hbm S4x577x1024 .f32 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 26 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27] : Fin 26 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) := by
  rw [Pipeline.ownSems0_eq_of_list c osem0 [0, 1, 2, 3, 4, 5, 6, 7, 8, 9, 10, 11, 12, 13, 14, 15, 16, 17, 18, 19, 20, 21, 22, 23, 24, 25] (by decide) (by decide)]; rfl
/-- The HBM operands the body moves, as references: unscoped, no window's array (`Pipeline.restRefs`). -/
def H0 : Finset (Ref sig .tc) := {main_arg2, main_arg1, main_arg0}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl | rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg1) ∗ hbPt0 c hbM0_2 (V m c main_arg0)) := by
  rw [BI.bigSep_eq_bigSepL_of_eq [main_arg2, main_arg1, main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) ∗ iprop(hbPt0 c hbM0_0 (V m c main_arg2) ∗ hbPt0 c hbM0_1 (V m c main_arg1) ∗ hbPt0 c hbM0_2 (V m c main_arg0))) := by
  rw [Pipeline.ΦD_eq, scopedRest0_eq, ownSems00_eq, hbmPts0_eq]; simp only [scM0_0, scM0_1, scM0_2, scM0_3, owns_whole]; try rfl

end Cert.KernelIdeal.Val

end
-- ==== Proof.IdealRun.lean ====
/- The kernel's body run once, on a ring of layer slabs held slot by slot. -/
module

public import proofs.«01_k».proof.Proof.Setup

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The ring of layer slabs, held slot by slot, each slot at contents of its own. -/
def ringAt (c : Dev nD) (arg5 : Memref sig .tc .vmem S9x577x1024 .f32) (g0 g1 g2 g3 g4 g5 g6 g7 g8 : Buf (Elt F) (arg5.view.loc (c : Thread nD τ))) : sProp 𝕄 :=
  iprop((arg5.view.loc (c : Thread nD τ) ↦[arg5.view.setOn (Rect.unit (s := S9x577x1024) ![0, 0, 0] S1x577x1024.size
        inb_S9x577x1024_S1x577x1024_0_0_0).set]{fullShare} g0) ∗ (arg5.view.loc (c : Thread nD τ) ↦[arg5.view.setOn (Rect.unit (s := S9x577x1024) ![1, 0, 0] S1x577x1024.size
        inb_S9x577x1024_S1x577x1024_1_0_0).set]{fullShare} g1) ∗ (arg5.view.loc (c : Thread nD τ) ↦[arg5.view.setOn (Rect.unit (s := S9x577x1024) ![2, 0, 0] S1x577x1024.size
        inb_S9x577x1024_S1x577x1024_2_0_0).set]{fullShare} g2) ∗ (arg5.view.loc (c : Thread nD τ) ↦[arg5.view.setOn (Rect.unit (s := S9x577x1024) ![3, 0, 0] S1x577x1024.size
        inb_S9x577x1024_S1x577x1024_3_0_0).set]{fullShare} g3) ∗ (arg5.view.loc (c : Thread nD τ) ↦[arg5.view.setOn (Rect.unit (s := S9x577x1024) ![4, 0, 0] S1x577x1024.size
        inb_S9x577x1024_S1x577x1024_4_0_0).set]{fullShare} g4) ∗ (arg5.view.loc (c : Thread nD τ) ↦[arg5.view.setOn (Rect.unit (s := S9x577x1024) ![5, 0, 0] S1x577x1024.size
        inb_S9x577x1024_S1x577x1024_5_0_0).set]{fullShare} g5) ∗ (arg5.view.loc (c : Thread nD τ) ↦[arg5.view.setOn (Rect.unit (s := S9x577x1024) ![6, 0, 0] S1x577x1024.size
        inb_S9x577x1024_S1x577x1024_6_0_0).set]{fullShare} g6) ∗ (arg5.view.loc (c : Thread nD τ) ↦[arg5.view.setOn (Rect.unit (s := S9x577x1024) ![7, 0, 0] S1x577x1024.size
        inb_S9x577x1024_S1x577x1024_7_0_0).set]{fullShare} g7) ∗ (arg5.view.loc (c : Thread nD τ) ↦[arg5.view.setOn (Rect.unit (s := S9x577x1024) ![8, 0, 0] S1x577x1024.size
        inb_S9x577x1024_S1x577x1024_8_0_0).set]{fullShare} g8))

/-- The body's semaphores, each at zero. -/
def cells (c : Dev nD) : sProp 𝕄 :=
  iprop(semVal ((c : Thread nD τ), SemLoc.dma 2) 0 ∗ semVal ((c : Thread nD τ), SemLoc.dma 3) 0 ∗ semVal ((c : Thread nD τ), SemLoc.dma 4) 0 ∗
      semVal ((c : Thread nD τ), SemLoc.dma 5) 0 ∗ semVal ((c : Thread nD τ), SemLoc.dma 6) 0 ∗ semVal ((c : Thread nD τ), SemLoc.dma 7) 0 ∗
      semVal ((c : Thread nD τ), SemLoc.dma 8) 0 ∗ semVal ((c : Thread nD τ), SemLoc.dma 9) 0 ∗ semVal ((c : Thread nD τ), SemLoc.dma 10) 0 ∗
      semVal ((c : Thread nD τ), SemLoc.dma 11) 0 ∗ semVal ((c : Thread nD τ), SemLoc.dma 12) 0 ∗ semVal ((c : Thread nD τ), SemLoc.dma 13) 0 ∗
      semVal ((c : Thread nD τ), SemLoc.dma 14) 0 ∗ semVal ((c : Thread nD τ), SemLoc.dma 15) 0 ∗ semVal ((c : Thread nD τ), SemLoc.dma 16) 0 ∗
      semVal ((c : Thread nD τ), SemLoc.dma 17) 0 ∗ semVal ((c : Thread nD τ), SemLoc.dma 18) 0 ∗ semVal ((c : Thread nD τ), SemLoc.dma 19) 0 ∗
      semVal ((c : Thread nD τ), SemLoc.dma 20) 0 ∗ semVal ((c : Thread nD τ), SemLoc.dma 21) 0 ∗ semVal ((c : Thread nD τ), SemLoc.dma 22) 0 ∗
      semVal ((c : Thread nD τ), SemLoc.dma 23) 0 ∗ semVal ((c : Thread nD τ), SemLoc.dma 24) 0 ∗ semVal ((c : Thread nD τ), SemLoc.dma 25) 0 ∗
      semVal ((c : Thread nD τ), SemLoc.dma 26) 0 ∗ semVal ((c : Thread nD τ), SemLoc.dma 27) 0)

-- the body is one long straight line: its run needs more than the default budget
set_option maxHeartbeats 0 in
set_option sl_exec.dmaWindow true in
set_option sl_exec.dmaWindowSet true in
/-- The body's run from any contents of the outputs and of the scratch: the pair holds the two outputs' contents at the end. -/
def bodyRun (c : Dev nD) (arg3 : Memref sig .tc .vmem S4x84x1024 .f32) (harg3 : arg3.IsWhole)
    (arg4 : Memref sig .tc .vmem S4x1x84 .i32) (harg4 : arg4.IsWhole) (arg5 : Memref sig .tc .vmem S9x577x1024 .f32) (harg5 : arg5.IsWhole)
    (arg6 : Memref sig .tc .vmem S577x1024 .f32) (harg6 : arg6.IsWhole) (arg7 : Memref sig .tc .vmem S4x577x1024 .f32) (harg7 : arg7.IsWhole)
    (arg8 : Memref sig .tc .vmem S4x16x1x577 .f32) (harg8 : arg8.IsWhole)
    (fh0 : HbBuf0 (F := F) c hbM0_0) (fh1 : HbBuf0 (F := F) c hbM0_1) (fh2 : HbBuf0 (F := F) c hbM0_2)
    (f3 : Buf (Elt F) (arg3.view.loc (c : Thread nD τ))) (f4 : Buf (Elt F) (arg4.view.loc (c : Thread nD τ))) (g : Buf (Elt F) (arg5.view.loc (c : Thread nD τ)))
    (f6 : Buf (Elt F) (arg6.view.loc (c : Thread nD τ))) (f7 : Buf (Elt F) (arg7.view.loc (c : Thread nD τ))) (f8 : Buf (Elt F) (arg8.view.loc (c : Thread nD τ))) :
    { L : Buf (Elt F) (arg3.view.loc (c : Thread nD τ)) × Buf (Elt F) (arg4.view.loc (c : Thread nD τ)) //
      ∀ (W : Waits sig Unit) (K : PUnit → sProp 𝕄),
        iprop((arg3.view.loc (c : Thread nD τ) ↦[arg3.view.set]{fullShare} f3) ∗ (arg4.view.loc (c : Thread nD τ) ↦[arg4.view.set]{fullShare} f4)
            ∗ ringAt c arg5 g g g g g g g g g ∗ (arg6.view.loc (c : Thread nD τ) ↦[arg6.view.set]{fullShare} f6)
            ∗ (arg7.view.loc (c : Thread nD τ) ↦[arg7.view.set]{fullShare} f7) ∗ (arg8.view.loc (c : Thread nD τ) ↦[arg8.view.set]{fullShare} f8)
            ∗ cells c ∗ hbPt0 c hbM0_0 fh0 ∗ hbPt0 c hbM0_1 fh1 ∗ hbPt0 c hbM0_2 fh2 ∗ owes (c : Thread nD τ) 0 W
            ∗ (iprop((arg3.view.loc (c : Thread nD τ) ↦[arg3.view.set]{fullShare} L.1) ∗ (arg4.view.loc (c : Thread nD τ) ↦[arg4.view.set]{fullShare} L.2)
                ∗ (∃ g0 g1 g2 g3 g4 g5 g6 g7 g8, ringAt c arg5 g0 g1 g2 g3 g4 g5 g6 g7 g8)
                ∗ (∃ f, arg6.view.loc (c : Thread nD τ) ↦[arg6.view.set]{fullShare} f) ∗ (∃ f, arg7.view.loc (c : Thread nD τ) ↦[arg7.view.set]{fullShare} f)
                ∗ (∃ f, arg8.view.loc (c : Thread nD τ) ↦[arg8.view.set]{fullShare} f)
                ∗ cells c ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ
              (cc0__body (Memref.whole main_arg2) (Memref.isWhole_whole _) (Memref.whole main_arg1) (Memref.isWhole_whole _)
                (Memref.whole main_arg0) (Memref.isWhole_whole _) arg3 harg3 arg4 harg4 arg5 harg5 arg6 harg6 arg7 harg7 arg8 harg8
                cc0_scratch4 cc0_scratch5 cc0_scratch6 cc0_scratch7) K } := by
  refine ⟨(?_, ?_), fun W K => ?run⟩
  case run =>
    simp only [cc0__body_eq_skeleton]; unfold cc0__body_skel
    simp only [k0_part87_eq_skeleton, k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton, k0_part11_eq_skeleton,
      k0_part12_eq_skeleton, k0_part13_eq_skeleton, k0_part14_eq_skeleton, k0_part15_eq_skeleton, k0_part16_eq_skeleton, k0_part17_eq_skeleton,
      k0_part18_eq_skeleton, k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton, k0_part29_eq_skeleton,
      k0_part30_eq_skeleton, k0_part31_eq_skeleton, k0_part32_eq_skeleton, k0_part33_eq_skeleton, k0_part34_eq_skeleton, k0_part35_eq_skeleton,
      k0_part36_eq_skeleton, k0_part37_eq_skeleton, k0_part38_eq_skeleton, k0_part39_eq_skeleton, k0_part40_eq_skeleton, k0_part41_eq_skeleton,
      k0_part42_eq_skeleton, k0_part43_eq_skeleton, k0_part44_eq_skeleton, k0_part45_eq_skeleton, k0_part46_eq_skeleton, k0_part47_eq_skeleton,
      k0_part48_eq_skeleton, k0_part49_eq_skeleton, k0_part50_eq_skeleton, k0_part51_eq_skeleton, k0_part52_eq_skeleton, k0_part53_eq_skeleton,
      k0_part54_eq_skeleton, k0_part55_eq_skeleton, k0_part56_eq_skeleton, k0_part57_eq_skeleton, k0_part58_eq_skeleton, k0_part59_eq_skeleton,
      k0_part60_eq_skeleton, k0_part61_eq_skeleton, k0_part62_eq_skeleton, k0_part63_eq_skeleton, k0_part64_eq_skeleton, k0_part65_eq_skeleton,
      k0_part66_eq_skeleton, k0_part67_eq_skeleton, k0_part68_eq_skeleton, k0_part69_eq_skeleton, k0_part70_eq_skeleton, k0_part71_eq_skeleton,
      k0_part72_eq_skeleton, k0_part73_eq_skeleton, k0_part74_eq_skeleton, k0_part75_eq_skeleton, k0_part76_eq_skeleton, k0_part77_eq_skeleton,
      k0_part78_eq_skeleton, k0_part79_eq_skeleton, k0_part80_eq_skeleton, k0_part81_eq_skeleton, k0_part82_eq_skeleton, k0_part83_eq_skeleton,
      k0_part84_eq_skeleton, k0_part85_eq_skeleton, k0_part86_eq_skeleton]
    unfold ringAt cells
    iintro ⟨H0, H1, ⟨HR0, HR1, HR2, HR3, HR4, HR5, HR6, HR7, HR8⟩, HS1, HS2, HS3,
      ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩,
      Hh0, Hh1, Hh2, HW, Hk⟩
    sl_exec
    sl_step
    iapply Hk
    isplitl [H0]; · iexact H0
    isplitl [H1]; · iexact H1
    isplitl [HR0 HR1 HR2 HR3 HR4 HR5 HR6 HR7 HR8]
    · iexists _, _, _, _, _, _, _, _, _
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      iexact HR8
    isplitl [HS1]; · iexists _; iexact HS1
    isplitl [HS2]; · iexists _; iexact HS2
    isplitl [HS3]; · iexists _; iexact HS3
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      iexact Hq25
    isplitl [Hh0]; · iexact Hh0
    isplitl [Hh1]; · iexact Hh1
    isplitl [Hh2]; · iexact Hh2
    iexists _; iexact HW

end Cert.KernelIdeal.Val

end
-- ==== Proof.IdealRing.lean ====
/- Holding the ring of layer slabs whole is holding it slot by slot. -/
module

public import proofs.«01_k».proof.Proof.IdealRun
public import Idealize.ShloMosaic.Lib.Ring.FamCut

@[expose] public section

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

theorem slot_inb : ∀ (s : Fin 9) (a : Fin 3), ![s.val, 0, 0] a + S1x577x1024.size a ≤ S9x577x1024.size a := by decide

/-- One slot's rectangle of the ring. -/
abbrev slot (s : Fin 9) : Rect S9x577x1024 := Rect.unit (s := S9x577x1024) ![s.val, 0, 0] S1x577x1024.size (slot_inb s)

/-- The elements of one slot. -/
abbrev slotSet (c : Dev nD) (s : Fin 9) : Finset (Idx (scM0_0.view.loc (c : Thread nD τ))) := scM0_0.view.setOn (slot s).set

theorem slot_disjoint (c : Dev nD) (s t : Fin 9) (h : s ≠ t) : Disjoint (slotSet c s) (slotSet c t) := by
  refine View.disjoint_setOn _ (Rect.unit_disjoint 0 ?_)
  have : s.val ≠ t.val := fun e => h (Fin.ext e)
  show s.val + 1 ≤ t.val ∨ t.val + 1 ≤ s.val
  omega

theorem ring_list (c : Dev nD) (P : Fin 9 → sProp 𝕄) :
    bigSep Finset.univ P = iprop(P 0 ∗ P 1 ∗ P 2 ∗ P 3 ∗ P 4 ∗ P 5 ∗ P 6 ∗ P 7 ∗ P 8) := by
  rw [BI.bigSep_eq_bigSepL_of_eq [0, 1, 2, 3, 4, 5, 6, 7, 8] (by decide) (by decide)]; rfl

/-- The elements of the ring's buffer in no slot (there are none; nothing needs that). -/
def ringRest (c : Dev nD) : sProp 𝕄 :=
  iprop(∃ f, scM0_0.view.loc (c : Thread nD τ) ↦[Ring.restOf (slotSet c)]{fullShare} f)

theorem ring_split_at (c : Dev nD) (g : Buf (Elt F) (scM0_0.view.loc (c : Thread nD τ))) :
    (scM0_0.view.loc (c : Thread nD τ) ↦{fullShare} g) ⊢ (iprop(ringAt c scM0_0 g g g g g g g g g ∗ ringRest c) : sProp 𝕄) := by
  refine (Ring.fam_split (Ix := Unit) (Name := ℕ) (U := Pipeline.UD sig nD τ) (Lvl := ℕ) (slotSet c) (slot_disjoint c) (q := fullShare) g).trans ?_
  iintro ⟨HR, H⟩
  isplitl [HR]
  · iapply (show (bigSep Finset.univ fun s => (scM0_0.view.loc (c : Thread nD τ) ↦[slotSet c s]{fullShare} g) : sProp 𝕄)
        ⊢ ringAt c scM0_0 g g g g g g g g g from Entails.of_eq (ring_list c _))
    iexact HR
  unfold ringRest
  iexists g
  iexact H

theorem ring_whole (c : Dev nD) :
    (iprop(∃ d, owns (c : Thread nD τ) scM0_0 fullShare d) : sProp 𝕄) = iprop(∃ g, scM0_0.view.loc (c : Thread nD τ) ↦{fullShare} g) := by
  simp only [owns_whole]
  rfl

theorem ring_split (c : Dev nD) :
    iprop(∃ d, owns (c : Thread nD τ) scM0_0 fullShare d) ⊢ (iprop(∃ g, ringAt c scM0_0 g g g g g g g g g ∗ ringRest c) : sProp 𝕄) := by
  rw [ring_whole]
  iintro ⟨%g, H⟩
  iexists g
  iapply (ring_split_at c g)
  iexact H

theorem ring_join (c : Dev nD) :
    iprop((∃ g0 g1 g2 g3 g4 g5 g6 g7 g8, ringAt c scM0_0 g0 g1 g2 g3 g4 g5 g6 g7 g8) ∗ ringRest c) ⊢ (iprop(∃ d, owns (c : Thread nD τ) scM0_0 fullShare d) : sProp 𝕄) := by
  rw [ring_whole]
  unfold ringAt ringRest
  iintro ⟨⟨%g0, %g1, %g2, %g3, %g4, %g5, %g6, %g7, %g8, HR0, HR1, HR2, HR3, HR4, HR5, HR6, HR7, HR8⟩, H⟩
  iapply (Ring.fam_join (Ix := Unit) (Name := ℕ) (U := Pipeline.UD sig nD τ) (Lvl := ℕ) (slotSet c) (slot_disjoint c) (q := fullShare) g0)
  isplitr [H]; swap; · iexact H
  iapply (Entails.of_eq (ring_list c _).symm)
  isplitl [HR0]; · iexists _; iexact HR0
  isplitl [HR1]; · iexists _; iexact HR1
  isplitl [HR2]; · iexists _; iexact HR2
  isplitl [HR3]; · iexists _; iexact HR3
  isplitl [HR4]; · iexists _; iexact HR4
  isplitl [HR5]; · iexists _; iexact HR5
  isplitl [HR6]; · iexists _; iexact HR6
  isplitl [HR7]; · iexists _; iexact HR7
  iexists _; iexact HR8

end Cert.KernelIdeal.Val

end
-- ==== Proof.IdealFrame.lean ====
/- The launch of the kernel: every run ends, the arguments unchanged and the semaphores at zero. -/
module

public import proofs.«01_k».proof.Proof.IdealRing
public import Idealize.ShloMosaic.Lib.Claim

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v0_1}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c)⟩) h

/-- The launch's invariant conjunct by conjunct, the semaphores as the run holds them. -/
theorem phi_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)
        ∗ cells c ∗ iprop(hbPt0 c hbM0_0 (V m c main_arg2) ∗ hbPt0 c hbM0_1 (V m c main_arg1) ∗ hbPt0 c hbM0_2 (V m c main_arg0))) :=
  PhiD0_eq m c

/-! ## The pipeline's proof data -/

/-- The output windows this certificate FORGETS (0, 1): nothing reads what the kernel leaves in them, so nothing
    of it is named (Lib/Pipeline/Dat.lean `Dat.toRForget`). -/
def forgets0 : Fin 2 → Bool := fun w => w.val == 0 || w.val == 1

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d)
    ∗ (∃ d, owns (c : Thread nD τ) (ms0_1 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d)
    ∗ (∃ d, owns (c : Thread nD τ) (ms0_1 t) fullShare d))

/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD osem0 spec0 H0 (V m) c from rfl, phi_eq]
  unfold Dat.owesAt Pipeline.owesWithin
  rw [show (dats m 0 c).owed t.castSucc = 0 from rfl, show (dats m 0 c).owed t.succ = 0 from rfl]
  iintro ⟨⟨⟨HS0, HS1, HS2, HS3⟩, Hg, Hq, ⟨Hh0, Hh1, Hh2⟩⟩, ⟨%W, -, HW⟩, ⟨%d0, H0⟩, ⟨%d1, H1⟩⟩
  ihave HS0 := (ring_split c) $$ HS0
  icases HS0 with ⟨%g, HR, HX⟩
  unfold owns
  icases H0 with ⟨%f3, -, H0⟩
  icases H1 with ⟨%f4, -, H1⟩
  icases HS1 with ⟨%d6, %f6, -, HS1⟩
  icases HS2 with ⟨%d7, %f7, -, HS2⟩
  icases HS3 with ⟨%d8, %f8, -, HS3⟩
  iapply ((bodyRun c _ _ _ _ _ _ _ _ _ _ _ _ (V m c main_arg2) (V m c main_arg1) (V m c main_arg0) f3 f4 g f6 f7 f8).2 W _)
  isplitl [H0]; · iexact H0
  isplitl [H1]; · iexact H1
  isplitl [HR]; · iexact HR
  isplitl [HS1]; · iexact HS1
  isplitl [HS2]; · iexact HS2
  isplitl [HS3]; · iexact HS3
  isplitl [Hq]; · iexact Hq
  isplitl [Hh0]; · iexact Hh0
  isplitl [Hh1]; · iexact Hh1
  isplitl [Hh2]; · iexact Hh2
  isplitl [HW]; · iexact HW
  iintro ⟨H0, H1, HR, ⟨%e6, HS1⟩, ⟨%e7, HS2⟩, ⟨%e8, HS3⟩, Hq, Hh0, Hh1, Hh2, ⟨%W', HW'⟩⟩
  ihave HS0 := (ring_join c) $$ [HR HX]
  · isplitl [HR]; · iexact HR
    iexact HX
  isplitl [HS0 HS1 HS2 HS3 Hg Hq Hh0 Hh1 Hh2]
  · isplitl [HS0 HS1 HS2 HS3]
    · isplitl [HS0]; · unfold owns; iexact HS0
      isplitl [HS1]
      · iexists _, _; isplitr; swap; · iexact HS1
        ipureintro; rfl
      isplitl [HS2]
      · iexists _, _; isplitr; swap; · iexact HS2
        ipureintro; rfl
      iexists _, _; isplitr; swap; · iexact HS3
      ipureintro; rfl
    isplitl [Hg]; · iexact Hg
    isplitl [Hq]; · iexact Hq
    isplitl [Hh0]; · iexact Hh0
    isplitl [Hh1]; · iexact Hh1
    iexact Hh2
  isplitl [HW']
  · iexists W'; isplitr; · ipureintro; exact fun _ _ => Or.inl trivial
    iexact HW'
  isplitl [H0]
  · iexists _, _; isplitr; swap; · iexact H0
    ipureintro; rfl
  iexists _, _; isplitr; swap; · iexact H1
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_dma_around_T_forget (Q' := _) cfgs (dats m) (0 : Fin 1) launch0 osem0 defs₀ Variants.none forgets0 ownSemFacts0 H0 T0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps) (hT := sfx_writes)
    (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 0, 1) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Val

end
-- ==== Proof.Chain.lean ====
/- What the idealized kernel computes for one batch row, as a function of the row's attention slab, the sum of its nine
   feature layers and its token slab, in steps named after what they find. -/
module

public import proofs.«01_k».proof.Proof.Setup

@[expose] public section

set_option maxRecDepth 16384

noncomputable section

namespace Cert.KernelIdeal.Val

open Cert.KernelIdeal.Gen
open Idealize.ShloMosaic Idealize.ShloMosaic.Tactic

variable {F : FTy → Type} [FloatOps F] [Named F]

/-- Each position's own number: along a row, along a column, and over the squares. -/
abbrev posRow : IVec S1x577 32 := iota .tc S1x577 32 [1] iota_S1x577_d1_w32
abbrev posCol : IVec S577x1 32 := iota .tc S577x1 32 [0] iota_S577x1_d0_w32
abbrev posP : IVec S577x577 32 := iota .tc S577x577 32 [0] iota_S577x577_d0_w32
abbrev posQ : IVec S577x577 32 := iota .tc S577x577 32 [1] iota_S577x577_d1_w32
abbrev posT : IVec S84x577 32 := iota .tc S84x577 32 [1] iota_S84x577_d1_w32

variable (a : Vec F S1x16x1x577 .f32) (acc : Vec F S577x1024 .f32) (hs : Vec F S1x577x1024 .f32)

/-- The scores along a row, the class position pushed below all, and the same down a column. -/
def mRow : FVec F S1x577 .f32 := k0_pay129 posRow (k0_pay128 a)
def mCol : FVec F S577x1 .f32 := k0_pay130 posRow (k0_pay128 a)
/-- The region of each position, along a row in two steps and down a column in two. -/
def regRow : IVec S1x577 32 := k0_pay133 (k0_pay131 posRow) (k0_pay132 posRow) 24#32 0#1 1#32
def regCol : IVec S577x1 32 := k0_pay137 k0_pay134 48#32 k0_pay135 k0_pay136
/-- Whether two positions share a region. -/
def same : IVec S577x577 1 :=
  k0_pay141 regRow regCol (k0_pay138 posCol) 2#32 (k0_pay139 posCol) (k0_pay140 posCol)
/-- Whether the column's position beats the row's, and the other way round. -/
def beatsCol : IVec S577x577 1 := k0_pay142 (mRow a) posP posQ (mCol a)
def beatsRow : IVec S577x577 1 := k0_pay143 (mRow a) posP posQ (mCol a)
/-- Whether fewer than three of a region beat the position. -/
def fewRow : IVec S1x577 1 := k0_pay144 (mRow a) posP posQ (mCol a) regRow regCol (k0_pay138 posCol) 2#32
  (k0_pay139 posCol) (k0_pay140 posCol)
/-- Whether the position is selected. -/
def selRow : IVec S1x577 1 := k0_pay148 posRow same (beatsCol a) (beatsRow a) (fewRow a) k0_pay145
def selCol : IVec S577x1 1 := k0_pay149 posRow same (beatsRow a) (fewRow a) k0_pay145
/-- How many selected positions come before. -/
def before : IVec S1x577 32 := k0_pay150 posRow posP posQ same (beatsRow a) (fewRow a) k0_pay145
/-- Which position is the t-th selected, one-hot. -/
def hot : IVec S84x577 1 := k0_pay153 (selRow a) (before a)
/-- The selected positions in order, less one. -/
def benchRow : IVec S1x84 32 := k0_pay154 (selCol a) (k0_pay151 posP posQ)
  (k0_pay152 posRow same (beatsCol a) (beatsRow a) (fewRow a) k0_pay145)
def benchCol : IVec S84x1 32 := k0_pay155 (selRow a) (before a)
/-- The selected positions' scores. -/
def benchScore : FVec F S84x1 .f32 := k0_pay156 (mRow a) (selRow a) (before a)
/-- How many selected positions rank below. -/
def below : IVec S577 32 := k0_pay157 posP posQ (beatsCol a) (selCol a)
/-- Whether the selected score is at the threshold or above. -/
def high : IVec S84x1 1 := k0_pay158 (mRow a) (selRow a) (benchScore a) (below a)
/-- The similarities. -/
def simB : FVec F S84x577 .f32 := k0_pay159 (hot a) acc
/-- The distances' squared parts: rows and columns of the grid. -/
def farY : FVec F S84x577 .f32 :=
  k0_pay165 (k0_pay161 (benchCol a) 24#32 k0_pay160) (k0_pay163 posT) 24#32 (k0_pay164 posT) 0#32
def farX : FVec F S84x577 .f32 := k0_pay166 posT (k0_pay162 (benchCol a))
/-- The aggregated values. -/
def aggB : FVec F S1x84x1024 .f32 := k0_pay167 posT (hot a) (high a) (simB a acc) (farY a) (farX a) hs
/-- The selected positions as stored. -/
def benchB : IVec S1x1x84 32 := k0_pay1 (benchRow a)

/-- The nine layers of one row summed three at a time. -/
def sumB (y : Fin 9 → Vec F S1x577x1024 .f32) : FVec F S577x1024 .f32 :=
  k0_pay127 (k0_pay126 (y 6)) (y 7) (y 8) (k0_pay125 (y 3) (y 4) (y 5) (k0_pay124 (y 0) (y 1) (y 2)))

end Cert.KernelIdeal.Val

end
-- ==== Proof.Loads.lean ====
/- What a slab of scratch holds after the copies into it: a load of a slot reads what the copy into that slot brought,
   whatever the other slots' copies wrote. -/
module

public import proofs.«01_k».proof.Proof.Setup
public import Idealize.ShloMosaic.Lib.Pointwise
public import Idealize.ShloMosaic.Lib.ValueLayout

@[expose] public section

set_option maxRecDepth 16384

noncomputable section

namespace Cert.KernelIdeal.Val

open Cert.KernelIdeal.Gen
open Idealize.ShloMosaic Idealize.ShloMosaic.TcCoe Idealize.ShloMosaic.Tactic

section Copy

variable {κ : Kind} {sp : Space} {s s' : Shape} {e : EltTy} {Val : EltTy → Type}

/-- An element the copy wrote reads as what was copied. -/
theorem read_copy_hit (M : Memref sig κ sp s e) (r : Rect s) (hr : ∀ a, r.stride a = 1) (q : r.shape.Squeezes s')
    (g : M.view.ty.Contents Val) (w : s'.Idx → Val e) (i : s.Idx) (y : s'.Idx)
    (h : r.emb (Shape.reshapeEquiv q.numel_eq y) = i) :
    M.view.read Val (((M.slice r hr).squeeze s' q).view.write Val g w Finset.univ) i = w y := by
  subst h
  exact congrFun (View.read_write_univ (v := ((M.slice r hr).squeeze s' q).view) g w) y

/-- An element outside the copy's rectangle reads as before it. -/
theorem read_copy_miss (M : Memref sig κ sp s e) (r : Rect s) (hr : ∀ a, r.stride a = 1) (q : r.shape.Squeezes s')
    (g : M.view.ty.Contents Val) (w : s'.Idx → Val e) (i : s.Idx) (h : ∀ z, r.emb z ≠ i) :
    M.view.read Val (((M.slice r hr).squeeze s' q).view.write Val g w Finset.univ) i = M.view.read Val g i := by
  refine View.read_congr_at (v := M.view) i (View.write_of_not_mem (v := ((M.slice r hr).squeeze s' q).view) g w Finset.univ ?_)
  intro hm
  obtain ⟨y, -, hy⟩ := Finset.mem_map.mp hm
  exact h _ (M.view.emb.injective hy)

/-- A unit rectangle misses an index that some coordinate puts below or above it. -/
theorem unit_miss {off size : Fin s.rank → ℕ} (inb : ∀ a, off a + size a ≤ s.size a) (i : s.Idx) (a : Fin s.rank)
    (h : (i a).val < off a ∨ off a + size a ≤ (i a).val) (z) : (Rect.unit off size inb).emb z ≠ i := by
  intro he
  have h1 := congrArg (fun x : s.Idx => (x a).val) he
  have h2 : ((Rect.unit off size inb).emb z a).val = off a + (z a).val := by
    rw [Rect.emb_apply]; show off a + 1 * (z a).val = _; rw [Nat.one_mul]
  have h3 : (z a).val < size a := (z a).isLt
  omega

end Copy

variable {F : FTy → Type} [FloatOps F] [Named F]

/-- One batch row's tokens, one row's attention of the class position, and one layer of one row. -/
def tokSlab (x : S4x577x1024.Idx → F .f32) (b : Fin 4) : Vec F S1x577x1024 .f32 := fun i => x (ix3 b (i 1) (i 2))
def attSlab (x : S4x16x577x577.Idx → F .f32) (b : Fin 4) : Vec F S1x16x1x577 .f32 :=
  fun i => x (ix4 b (i 1) 0 (i 3))
def layer (x : S9x4x577x1024.Idx → F .f32) (l : Fin 9) (b : Fin 4) : Vec F S1x577x1024 .f32 :=
  fun i => x (ix4 l b (i 1) (i 2))

/-- A load of a token slot passes over a copy into another slot, -/
theorem tok_skip (M : Memref sig .tc .vmem S4x577x1024 .f32) (b b' : ℕ) (hb : b ≠ b') (inb inb' hr q)
    (g : M.view.ty.Contents (Elt F)) (w : S577x1024.Idx → F .f32) :
    View.readAt (Elt F) M.view (Rect.unit (s := S4x577x1024) ![b, 0, 0] S1x577x1024.size inb).toLoadRect
        (View.write (Elt F) ((M.slice (Rect.unit (s := S4x577x1024) ![b', 0, 0] S1x577x1024.size inb') hr).squeeze S577x1024 q).view g w Finset.univ)
      = View.readAt (Elt F) M.view (Rect.unit (s := S4x577x1024) ![b, 0, 0] S1x577x1024.size inb).toLoadRect g := by
  funext x
  refine read_copy_miss M _ hr q g w _ (unit_miss inb' _ 0 ?_)
  have h0 : (x 0).val < 1 := (x 0).isLt
  show b + 1 * (x 0).val < b' ∨ b' + 1 ≤ b + 1 * (x 0).val
  omega

/-- and reads what the copy into its own slot brought from one row of the tokens. -/
theorem tok_read (M : Memref sig .tc .vmem S4x577x1024 .f32) (b : Fin 4) (inb inb' hr q inb'' hr' q')
    (g : M.view.ty.Contents (Elt F)) (x : S4x577x1024.Idx → F .f32) :
    View.readAt (Elt F) M.view (Rect.unit (s := S4x577x1024) ![b.val, 0, 0] S1x577x1024.size inb).toLoadRect
        (View.write (Elt F) ((M.slice (Rect.unit (s := S4x577x1024) ![b.val, 0, 0] S1x577x1024.size inb') hr).squeeze S577x1024 q).view g
          (ReadAs.same.apply (View.read (Elt F) ((hbM0_2.slice (Rect.unit (s := S4x577x1024) ![b.val, 0, 0] S1x577x1024.size inb'') hr').squeeze S577x1024 q').view x))
          Finset.univ)
      = tokSlab x b := by
  funext i
  have h0 : (i 0).val = 0 := Nat.lt_one_iff.mp (i 0).isLt
  refine (read_copy_hit M _ hr q g _ _ (ix2 (i 1) (i 2)) ?_).trans ?_
  · refine (congrArg _ (ValueIdx.reshapeEquiv_ix2_1ab q.numel_eq (i 1) (i 2))).trans ?_
    funext a
    fin_cases a
    · exact Fin.ext (by show b.val + 1 * 0 = b.val + 1 * (i 0).val; omega)
    · rfl
    · rfl
  · show x ((Rect.unit (s := S4x577x1024) ![b.val, 0, 0] S1x577x1024.size inb'').emb (Shape.reshapeEquiv q'.numel_eq (ix2 (i 1) (i 2)))) = _
    refine congrArg x ((congrArg _ (ValueIdx.reshapeEquiv_ix2_1ab q'.numel_eq (i 1) (i 2))).trans ?_)
    funext a
    fin_cases a
    · exact Fin.ext (by show b.val + 1 * 0 = b.val; omega)
    · exact Fin.ext (by show 0 + 1 * (i 1).val = (i 1).val; omega)
    · exact Fin.ext (by show 0 + 1 * (i 2).val = (i 2).val; omega)

/-- The same of an attention slot, over a copy into another -/
theorem att_skip (M : Memref sig .tc .vmem S4x16x1x577 .f32) (b b' : ℕ) (hb : b ≠ b') (inb inb' hr q)
    (g : M.view.ty.Contents (Elt F)) (w : S16x1x577.Idx → F .f32) :
    View.readAt (Elt F) M.view (Rect.unit (s := S4x16x1x577) ![b, 0, 0, 0] S1x16x1x577.size inb).toLoadRect
        (View.write (Elt F) ((M.slice (Rect.unit (s := S4x16x1x577) ![b', 0, 0, 0] S1x16x1x577.size inb') hr).squeeze S16x1x577 q).view g w Finset.univ)
      = View.readAt (Elt F) M.view (Rect.unit (s := S4x16x1x577) ![b, 0, 0, 0] S1x16x1x577.size inb).toLoadRect g := by
  funext x
  refine read_copy_miss M _ hr q g w _ (unit_miss inb' _ 0 ?_)
  have h0 : (x 0).val < 1 := (x 0).isLt
  show b + 1 * (x 0).val < b' ∨ b' + 1 ≤ b + 1 * (x 0).val
  omega

/-- and of the class position's attention in one row. -/
theorem att_read (M : Memref sig .tc .vmem S4x16x1x577 .f32) (b : Fin 4) (inb inb' hr q inb'' hr' q')
    (g : M.view.ty.Contents (Elt F)) (x : S4x16x577x577.Idx → F .f32) :
    View.readAt (Elt F) M.view (Rect.unit (s := S4x16x1x577) ![b.val, 0, 0, 0] S1x16x1x577.size inb).toLoadRect
        (View.write (Elt F) ((M.slice (Rect.unit (s := S4x16x1x577) ![b.val, 0, 0, 0] S1x16x1x577.size inb') hr).squeeze S16x1x577 q).view g
          (ReadAs.same.apply (View.read (Elt F) ((hbM0_0.slice (Rect.unit (s := S4x16x577x577) ![b.val, 0, 0, 0] S1x16x1x577.size inb'') hr').squeeze S16x1x577 q').view x))
          Finset.univ)
      = attSlab x b := by
  funext i
  have h0 : (i 0).val = 0 := Nat.lt_one_iff.mp (i 0).isLt
  have h2 : (i 2).val = 0 := Nat.lt_one_iff.mp (i 2).isLt
  refine (read_copy_hit M _ hr q g _ _ (ix3 (i 1) (i 2) (i 3)) ?_).trans ?_
  · refine (congrArg _ (ValueIdx.reshapeEquiv_ix3_1abc q.numel_eq (i 1) (i 2) (i 3))).trans ?_
    funext a
    fin_cases a
    · exact Fin.ext (by show b.val + 1 * 0 = b.val + 1 * (i 0).val; omega)
    · rfl
    · rfl
    · rfl
  · show x ((Rect.unit (s := S4x16x577x577) ![b.val, 0, 0, 0] S1x16x1x577.size inb'').emb (Shape.reshapeEquiv q'.numel_eq (ix3 (i 1) (i 2) (i 3)))) = _
    refine congrArg x ((congrArg _ (ValueIdx.reshapeEquiv_ix3_1abc q'.numel_eq (i 1) (i 2) (i 3))).trans ?_)
    funext a
    fin_cases a
    · exact Fin.ext (by show b.val + 1 * 0 = b.val; omega)
    · exact Fin.ext (by show 0 + 1 * (i 1).val = (i 1).val; omega)
    · exact Fin.ext (by show 0 + 1 * (i 2).val = 0; omega)
    · exact Fin.ext (by show 0 + 1 * (i 3).val = (i 3).val; omega)

/-- A load of a ring slot reads the layer whose two half-width copies came in last. -/
theorem ring_read (M : Memref sig .tc .vmem S9x577x1024 .f32) (l : Fin 9) (b : Fin 4) (inb inb1 hr1 q1 inb2 hr2 q2 ib1 h1 k1 ib2 h2 k2)
    (g : M.view.ty.Contents (Elt F)) (x : S9x4x577x1024.Idx → F .f32) :
    View.readAt (Elt F) M.view (Rect.unit (s := S9x577x1024) ![l.val, 0, 0] S1x577x1024.size inb).toLoadRect
        (View.write (Elt F) ((M.slice (Rect.unit (s := S9x577x1024) ![l.val, 0, 512] S1x577x512.size inb2) hr2).squeeze S577x512 q2).view
          (View.write (Elt F) ((M.slice (Rect.unit (s := S9x577x1024) ![l.val, 0, 0] S1x577x512.size inb1) hr1).squeeze S577x512 q1).view g
            (ReadAs.same.apply (View.read (Elt F) ((hbM0_1.slice (Rect.unit (s := S9x4x577x1024) ![l.val, b.val, 0, 0] S1x1x577x512.size ib1) h1).squeeze S577x512 k1).view x))
            Finset.univ)
          (ReadAs.same.apply (View.read (Elt F) ((hbM0_1.slice (Rect.unit (s := S9x4x577x1024) ![l.val, b.val, 0, 512] S1x1x577x512.size ib2) h2).squeeze S577x512 k2).view x))
          Finset.univ)
      = layer x l b := by
  funext i
  have h0 : (i 0).val = 0 := Nat.lt_one_iff.mp (i 0).isLt
  have hd : (i 2).val < 1024 := (i 2).isLt
  by_cases hlo : (i 2).val < 512
  · refine (read_copy_miss M _ hr2 q2 _ _ _ (unit_miss inb2 _ 2 (Or.inl ?_))).trans ?_
    · show 0 + 1 * (i 2).val < 512; omega
    refine (read_copy_hit M _ hr1 q1 g _ _ (ix2 (i 1) ⟨(i 2).val, hlo⟩) ?_).trans ?_
    · refine (congrArg _ (ValueIdx.reshapeEquiv_ix2_1ab q1.numel_eq (i 1) ⟨(i 2).val, hlo⟩)).trans ?_
      funext a
      fin_cases a
      · exact Fin.ext (by show l.val + 1 * 0 = l.val + 1 * (i 0).val; omega)
      · rfl
      · rfl
    · show x ((Rect.unit (s := S9x4x577x1024) ![l.val, b.val, 0, 0] S1x1x577x512.size ib1).emb (Shape.reshapeEquiv k1.numel_eq (ix2 (i 1) ⟨(i 2).val, hlo⟩))) = _
      refine congrArg x ((congrArg _ (ValueIdx.reshapeEquiv_ix2_11ab k1.numel_eq (i 1) ⟨(i 2).val, hlo⟩)).trans ?_)
      funext a
      fin_cases a
      · exact Fin.ext (by show l.val + 1 * 0 = l.val; omega)
      · exact Fin.ext (by show b.val + 1 * 0 = b.val; omega)
      · exact Fin.ext (by show 0 + 1 * (i 1).val = (i 1).val; omega)
      · exact Fin.ext (by show 0 + 1 * (i 2).val = (i 2).val; omega)
  · have hh : (i 2).val - 512 < 512 := by omega
    refine (read_copy_hit M _ hr2 q2 _ _ _ (ix2 (i 1) ⟨(i 2).val - 512, hh⟩) ?_).trans ?_
    · refine (congrArg _ (ValueIdx.reshapeEquiv_ix2_1ab q2.numel_eq (i 1) ⟨(i 2).val - 512, hh⟩)).trans ?_
      funext a
      fin_cases a
      · exact Fin.ext (by show l.val + 1 * 0 = l.val + 1 * (i 0).val; omega)
      · rfl
      · exact Fin.ext (by show 512 + 1 * ((i 2).val - 512) = 0 + 1 * (i 2).val; omega)
    · show x ((Rect.unit (s := S9x4x577x1024) ![l.val, b.val, 0, 512] S1x1x577x512.size ib2).emb (Shape.reshapeEquiv k2.numel_eq (ix2 (i 1) ⟨(i 2).val - 512, hh⟩))) = _
      refine congrArg x ((congrArg _ (ValueIdx.reshapeEquiv_ix2_11ab k2.numel_eq (i 1) ⟨(i 2).val - 512, hh⟩)).trans ?_)
      funext a
      fin_cases a
      · exact Fin.ext (by show l.val + 1 * 0 = l.val; omega)
      · exact Fin.ext (by show b.val + 1 * 0 = b.val; omega)
      · exact Fin.ext (by show 0 + 1 * (i 1).val = (i 1).val; omega)
      · exact Fin.ext (by show 512 + 1 * ((i 2).val - 512) = (i 2).val; omega)

end Cert.KernelIdeal.Val

end
-- ==== Proof.Batches.lean ====
/- Each batch row of the body's run computes what the chain says, from its own slabs. -/
module

public import proofs.«01_k».proof.Proof.Chain
public import proofs.«01_k».proof.Proof.Loads
public import proofs.«01_k».proof.Proof.IdealRun
public import Idealize.ShloMosaic.Lib.VecWindow

@[expose] public section

set_option maxRecDepth 16384

noncomputable section

namespace Cert.KernelIdeal.Val

open Cert.KernelIdeal.Gen
open Idealize.ShloMosaic Idealize.ShloMosaic.TcCoe Idealize.ShloMosaic.Tactic

variable {F : FTy → Type} [FloatOps F] [Named F]

variable (c : Dev nD) (arg5 : Memref sig .tc .vmem S9x577x1024 .f32) (arg6 : Memref sig .tc .vmem S577x1024 .f32)
  (arg7 : Memref sig .tc .vmem S4x577x1024 .f32) (arg8 : Memref sig .tc .vmem S4x16x1x577 .f32)
  (fh0 : HbBuf0 (F := F) c hbM0_0) (fh1 : HbBuf0 (F := F) c hbM0_1) (fh2 : HbBuf0 (F := F) c hbM0_2)
  (g : Buf (Elt F) (arg5.view.loc (c : Thread nD τ))) (f7 : Buf (Elt F) (arg7.view.loc (c : Thread nD τ)))
  (f8 : Buf (Elt F) (arg8.view.loc (c : Thread nD τ)))

/-! Batch row 0. -/

theorem att0 : bodyRun.sl.v422 (F := F) c arg8 fh0 f8 = attSlab fh0 0 :=
  (att_skip arg8 0 3 (by decide) _ _ _ _ _ _).trans <| (att_skip arg8 0 2 (by decide) _ _ _ _ _ _).trans <| (att_skip arg8 0 1 (by decide) _ _ _ _ _ _).trans <| att_read arg8 0 _ _ _ _ _ _ _ _ _

theorem tok0 : bodyRun.sl.v864 (F := F) c arg7 fh2 f7 = tokSlab fh2 0 :=
  (tok_skip arg7 0 3 (by decide) _ _ _ _ _ _).trans <| (tok_skip arg7 0 2 (by decide) _ _ _ _ _ _).trans <| (tok_skip arg7 0 1 (by decide) _ _ _ _ _ _).trans <| tok_read arg7 0 _ _ _ _ _ _ _ _ _

theorem sum0 : bodyRun.sl.v723 (F := F) c arg5 arg6 fh1 g = sumB (fun l => layer fh1 l 0) := by
  have e0 : bodyRun.sl.v192 c arg5 fh1 g = layer fh1 0 0 := ring_read arg5 0 0 _ _ _ _ _ _ _ _ _ _ _ _ _ _ _
  have e1 : bodyRun.sl.v194 c arg5 fh1 g = layer fh1 1 0 := ring_read arg5 1 0 _ _ _ _ _ _ _ _ _ _ _ _ _ _ _
  have e2 : bodyRun.sl.v197 c arg5 fh1 g = layer fh1 2 0 := ring_read arg5 2 0 _ _ _ _ _ _ _ _ _ _ _ _ _ _ _
  have e3 : bodyRun.sl.v275 c arg5 fh1 g = layer fh1 3 0 := ring_read arg5 3 0 _ _ _ _ _ _ _ _ _ _ _ _ _ _ _
  have e4 : bodyRun.sl.v277 c arg5 fh1 g = layer fh1 4 0 := ring_read arg5 4 0 _ _ _ _ _ _ _ _ _ _ _ _ _ _ _
  have e5 : bodyRun.sl.v280 c arg5 fh1 g = layer fh1 5 0 := ring_read arg5 5 0 _ _ _ _ _ _ _ _ _ _ _ _ _ _ _
  have e6 : bodyRun.sl.v360 c arg5 fh1 g = layer fh1 6 0 := ring_read arg5 6 0 _ _ _ _ _ _ _ _ _ _ _ _ _ _ _
  have e7 : bodyRun.sl.v362 c arg5 fh1 g = layer fh1 7 0 := ring_read arg5 7 0 _ _ _ _ _ _ _ _ _ _ _ _ _ _ _
  have e8 : bodyRun.sl.v365 c arg5 fh1 g = layer fh1 8 0 := ring_read arg5 8 0 _ _ _ _ _ _ _ _ _ _ _ _ _ _ _
  have h1 : bodyRun.sl.v283 (F := F) c arg5 arg6 fh1 g = k0_pay124 (bodyRun.sl.v192 c arg5 fh1 g) (bodyRun.sl.v194 c arg5 fh1 g) (bodyRun.sl.v197 c arg5 fh1 g) := View.readCov_full _ _ _ _ _
  have h2 : bodyRun.sl.v368 (F := F) c arg5 arg6 fh1 g = k0_pay125 (bodyRun.sl.v275 c arg5 fh1 g) (bodyRun.sl.v277 c arg5 fh1 g) (bodyRun.sl.v280 c arg5 fh1 g) (bodyRun.sl.v283 c arg5 arg6 fh1 g) := View.readCov_full _ _ _ _ _
  have h3 : bodyRun.sl.v723 (F := F) c arg5 arg6 fh1 g = k0_pay127 (k0_pay126 (bodyRun.sl.v360 c arg5 fh1 g)) (bodyRun.sl.v362 c arg5 fh1 g) (bodyRun.sl.v365 c arg5 fh1 g) (bodyRun.sl.v368 c arg5 arg6 fh1 g) := View.readCov_full _ _ _ _ _
  rw [h3, h2, h1, e0, e1, e2, e3, e4, e5, e6, e7, e8]
  rfl

theorem bench0 : bodyRun.sl.v872 (F := F) c arg8 fh0 f8 = benchB (attSlab fh0 0) := by
  rw [← att0 c arg8 fh0 f8]
  rfl

theorem agg0 : bodyRun.sl.v869 (F := F) c arg5 arg6 arg7 arg8 fh0 fh1 fh2 g f7 f8
    = aggB (attSlab fh0 0) (sumB (fun l => layer fh1 l 0)) (tokSlab fh2 0) := by
  rw [← att0 c arg8 fh0 f8, ← sum0 c arg5 arg6 fh1 g, ← tok0 c arg7 fh2 f7]
  rfl

/-! Batch row 1. -/

theorem att1 : bodyRun.sl.v1139 (F := F) c arg8 fh0 f8 = attSlab fh0 1 :=
  (att_skip arg8 1 3 (by decide) _ _ _ _ _ _).trans <| (att_skip arg8 1 2 (by decide) _ _ _ _ _ _).trans <| att_read arg8 1 _ _ _ _ _ _ _ _ _

theorem tok1 : bodyRun.sl.v1581 (F := F) c arg7 fh2 f7 = tokSlab fh2 1 :=
  (tok_skip arg7 1 3 (by decide) _ _ _ _ _ _).trans <| (tok_skip arg7 1 2 (by decide) _ _ _ _ _ _).trans <| tok_read arg7 1 _ _ _ _ _ _ _ _ _

theorem sum1 : bodyRun.sl.v1440 (F := F) c arg5 arg6 fh1 g = sumB (fun l => layer fh1 l 1) := by
  have e0 : bodyRun.sl.v909 c arg5 fh1 g = layer fh1 0 1 := ring_read arg5 0 1 _ _ _ _ _ _ _ _ _ _ _ _ _ _ _
  have e1 : bodyRun.sl.v911 c arg5 fh1 g = layer fh1 1 1 := ring_read arg5 1 1 _ _ _ _ _ _ _ _ _ _ _ _ _ _ _
  have e2 : bodyRun.sl.v914 c arg5 fh1 g = layer fh1 2 1 := ring_read arg5 2 1 _ _ _ _ _ _ _ _ _ _ _ _ _ _ _
  have e3 : bodyRun.sl.v992 c arg5 fh1 g = layer fh1 3 1 := ring_read arg5 3 1 _ _ _ _ _ _ _ _ _ _ _ _ _ _ _
  have e4 : bodyRun.sl.v994 c arg5 fh1 g = layer fh1 4 1 := ring_read arg5 4 1 _ _ _ _ _ _ _ _ _ _ _ _ _ _ _
  have e5 : bodyRun.sl.v997 c arg5 fh1 g = layer fh1 5 1 := ring_read arg5 5 1 _ _ _ _ _ _ _ _ _ _ _ _ _ _ _
  have e6 : bodyRun.sl.v1077 c arg5 fh1 g = layer fh1 6 1 := ring_read arg5 6 1 _ _ _ _ _ _ _ _ _ _ _ _ _ _ _
  have e7 : bodyRun.sl.v1079 c arg5 fh1 g = layer fh1 7 1 := ring_read arg5 7 1 _ _ _ _ _ _ _ _ _ _ _ _ _ _ _
  have e8 : bodyRun.sl.v1082 c arg5 fh1 g = layer fh1 8 1 := ring_read arg5 8 1 _ _ _ _ _ _ _ _ _ _ _ _ _ _ _
  have h1 : bodyRun.sl.v1000 (F := F) c arg5 arg6 fh1 g = k0_pay124 (bodyRun.sl.v909 c arg5 fh1 g) (bodyRun.sl.v911 c arg5 fh1 g) (bodyRun.sl.v914 c arg5 fh1 g) := View.readCov_full _ _ _ _ _
  have h2 : bodyRun.sl.v1085 (F := F) c arg5 arg6 fh1 g = k0_pay125 (bodyRun.sl.v992 c arg5 fh1 g) (bodyRun.sl.v994 c arg5 fh1 g) (bodyRun.sl.v997 c arg5 fh1 g) (bodyRun.sl.v1000 c arg5 arg6 fh1 g) := View.readCov_full _ _ _ _ _
  have h3 : bodyRun.sl.v1440 (F := F) c arg5 arg6 fh1 g = k0_pay127 (k0_pay126 (bodyRun.sl.v1077 c arg5 fh1 g)) (bodyRun.sl.v1079 c arg5 fh1 g) (bodyRun.sl.v1082 c arg5 fh1 g) (bodyRun.sl.v1085 c arg5 arg6 fh1 g) := View.readCov_full _ _ _ _ _
  rw [h3, h2, h1, e0, e1, e2, e3, e4, e5, e6, e7, e8]
  rfl

theorem bench1 : bodyRun.sl.v1589 (F := F) c arg8 fh0 f8 = benchB (attSlab fh0 1) := by
  rw [← att1 c arg8 fh0 f8]
  rfl

theorem agg1 : bodyRun.sl.v1586 (F := F) c arg5 arg6 arg7 arg8 fh0 fh1 fh2 g f7 f8
    = aggB (attSlab fh0 1) (sumB (fun l => layer fh1 l 1)) (tokSlab fh2 1) := by
  rw [← att1 c arg8 fh0 f8, ← sum1 c arg5 arg6 fh1 g, ← tok1 c arg7 fh2 f7]
  rfl

/-! Batch row 2. -/

theorem att2 : bodyRun.sl.v1856 (F := F) c arg8 fh0 f8 = attSlab fh0 2 :=
  (att_skip arg8 2 3 (by decide) _ _ _ _ _ _).trans <| att_read arg8 2 _ _ _ _ _ _ _ _ _

theorem tok2 : bodyRun.sl.v2298 (F := F) c arg7 fh2 f7 = tokSlab fh2 2 :=
  (tok_skip arg7 2 3 (by decide) _ _ _ _ _ _).trans <| tok_read arg7 2 _ _ _ _ _ _ _ _ _

theorem sum2 : bodyRun.sl.v2157 (F := F) c arg5 arg6 fh1 g = sumB (fun l => layer fh1 l 2) := by
  have e0 : bodyRun.sl.v1626 c arg5 fh1 g = layer fh1 0 2 := ring_read arg5 0 2 _ _ _ _ _ _ _ _ _ _ _ _ _ _ _
  have e1 : bodyRun.sl.v1628 c arg5 fh1 g = layer fh1 1 2 := ring_read arg5 1 2 _ _ _ _ _ _ _ _ _ _ _ _ _ _ _
  have e2 : bodyRun.sl.v1631 c arg5 fh1 g = layer fh1 2 2 := ring_read arg5 2 2 _ _ _ _ _ _ _ _ _ _ _ _ _ _ _
  have e3 : bodyRun.sl.v1709 c arg5 fh1 g = layer fh1 3 2 := ring_read arg5 3 2 _ _ _ _ _ _ _ _ _ _ _ _ _ _ _
  have e4 : bodyRun.sl.v1711 c arg5 fh1 g = layer fh1 4 2 := ring_read arg5 4 2 _ _ _ _ _ _ _ _ _ _ _ _ _ _ _
  have e5 : bodyRun.sl.v1714 c arg5 fh1 g = layer fh1 5 2 := ring_read arg5 5 2 _ _ _ _ _ _ _ _ _ _ _ _ _ _ _
  have e6 : bodyRun.sl.v1794 c arg5 fh1 g = layer fh1 6 2 := ring_read arg5 6 2 _ _ _ _ _ _ _ _ _ _ _ _ _ _ _
  have e7 : bodyRun.sl.v1796 c arg5 fh1 g = layer fh1 7 2 := ring_read arg5 7 2 _ _ _ _ _ _ _ _ _ _ _ _ _ _ _
  have e8 : bodyRun.sl.v1799 c arg5 fh1 g = layer fh1 8 2 := ring_read arg5 8 2 _ _ _ _ _ _ _ _ _ _ _ _ _ _ _
  have h1 : bodyRun.sl.v1717 (F := F) c arg5 arg6 fh1 g = k0_pay124 (bodyRun.sl.v1626 c arg5 fh1 g) (bodyRun.sl.v1628 c arg5 fh1 g) (bodyRun.sl.v1631 c arg5 fh1 g) := View.readCov_full _ _ _ _ _
  have h2 : bodyRun.sl.v1802 (F := F) c arg5 arg6 fh1 g = k0_pay125 (bodyRun.sl.v1709 c arg5 fh1 g) (bodyRun.sl.v1711 c arg5 fh1 g) (bodyRun.sl.v1714 c arg5 fh1 g) (bodyRun.sl.v1717 c arg5 arg6 fh1 g) := View.readCov_full _ _ _ _ _
  have h3 : bodyRun.sl.v2157 (F := F) c arg5 arg6 fh1 g = k0_pay127 (k0_pay126 (bodyRun.sl.v1794 c arg5 fh1 g)) (bodyRun.sl.v1796 c arg5 fh1 g) (bodyRun.sl.v1799 c arg5 fh1 g) (bodyRun.sl.v1802 c arg5 arg6 fh1 g) := View.readCov_full _ _ _ _ _
  rw [h3, h2, h1, e0, e1, e2, e3, e4, e5, e6, e7, e8]
  rfl

theorem bench2 : k0_pay123 (bodyRun.sl.r_18 (F := F) c arg8 fh0 f8) = benchB (attSlab fh0 2) := by
  rw [← att2 c arg8 fh0 f8]
  rfl

theorem agg2 : k0_pay122 (bodyRun.sl.r_17 (F := F) c arg8 fh0 f8) (bodyRun.sl.r_26 c arg5 arg6 arg8 fh0 fh1 g f8) (bodyRun.sl.r_27 c arg8 fh0 f8) (bodyRun.sl.v2298 c arg7 fh2 f7)
    = aggB (attSlab fh0 2) (sumB (fun l => layer fh1 l 2)) (tokSlab fh2 2) := by
  rw [← att2 c arg8 fh0 f8, ← sum2 c arg5 arg6 fh1 g, ← tok2 c arg7 fh2 f7]
  rfl

/-! Batch row 3. -/

theorem att3 : bodyRun.sl.v2465 (F := F) c arg8 fh0 f8 = attSlab fh0 3 :=
  att_read arg8 3 _ _ _ _ _ _ _ _ _

theorem tok3 : bodyRun.sl.v2907 (F := F) c arg7 fh2 f7 = tokSlab fh2 3 :=
  tok_read arg7 3 _ _ _ _ _ _ _ _ _

theorem sum3 : bodyRun.sl.v2766 (F := F) c arg5 arg6 fh1 g = sumB (fun l => layer fh1 l 3) := by
  have e0 : bodyRun.sl.v2343 c arg5 fh1 g = layer fh1 0 3 := ring_read arg5 0 3 _ _ _ _ _ _ _ _ _ _ _ _ _ _ _
  have e1 : bodyRun.sl.v2345 c arg5 fh1 g = layer fh1 1 3 := ring_read arg5 1 3 _ _ _ _ _ _ _ _ _ _ _ _ _ _ _
  have e2 : bodyRun.sl.v2348 c arg5 fh1 g = layer fh1 2 3 := ring_read arg5 2 3 _ _ _ _ _ _ _ _ _ _ _ _ _ _ _
  have e3 : bodyRun.sl.v c arg5 fh1 g = layer fh1 3 3 := ring_read arg5 3 3 _ _ _ _ _ _ _ _ _ _ _ _ _ _ _
  have e4 : bodyRun.sl.v2392 c arg5 fh1 g = layer fh1 4 3 := ring_read arg5 4 3 _ _ _ _ _ _ _ _ _ _ _ _ _ _ _
  have e5 : bodyRun.sl.v2395 c arg5 fh1 g = layer fh1 5 3 := ring_read arg5 5 3 _ _ _ _ _ _ _ _ _ _ _ _ _ _ _
  have e6 : bodyRun.sl.v2439 c arg5 fh1 g = layer fh1 6 3 := ring_read arg5 6 3 _ _ _ _ _ _ _ _ _ _ _ _ _ _ _
  have e7 : bodyRun.sl.v2441 c arg5 fh1 g = layer fh1 7 3 := ring_read arg5 7 3 _ _ _ _ _ _ _ _ _ _ _ _ _ _ _
  have e8 : bodyRun.sl.v2444 c arg5 fh1 g = layer fh1 8 3 := ring_read arg5 8 3 _ _ _ _ _ _ _ _ _ _ _ _ _ _ _
  have h1 : bodyRun.sl.v2398 (F := F) c arg5 arg6 fh1 g = k0_pay124 (bodyRun.sl.v2343 c arg5 fh1 g) (bodyRun.sl.v2345 c arg5 fh1 g) (bodyRun.sl.v2348 c arg5 fh1 g) := View.readCov_full _ _ _ _ _
  have h2 : bodyRun.sl.v2447 (F := F) c arg5 arg6 fh1 g = k0_pay125 (bodyRun.sl.v c arg5 fh1 g) (bodyRun.sl.v2392 c arg5 fh1 g) (bodyRun.sl.v2395 c arg5 fh1 g) (bodyRun.sl.v2398 c arg5 arg6 fh1 g) := View.readCov_full _ _ _ _ _
  have h3 : bodyRun.sl.v2766 (F := F) c arg5 arg6 fh1 g = k0_pay127 (k0_pay126 (bodyRun.sl.v2439 c arg5 fh1 g)) (bodyRun.sl.v2441 c arg5 fh1 g) (bodyRun.sl.v2444 c arg5 fh1 g) (bodyRun.sl.v2447 c arg5 arg6 fh1 g) := View.readCov_full _ _ _ _ _
  rw [h3, h2, h1, e0, e1, e2, e3, e4, e5, e6, e7, e8]
  rfl

theorem bench3 : k0_pay1 (bodyRun.sl.r_43 (F := F) c arg8 fh0 f8) = benchB (attSlab fh0 3) := by
  rw [← att3 c arg8 fh0 f8]
  rfl

theorem agg3 : k0_pay167 bodyRun.sl.v2095 (bodyRun.sl.r_42 (F := F) c arg8 fh0 f8) (bodyRun.sl.r_47 c arg8 fh0 f8) (bodyRun.sl.r_48 c arg5 arg6 arg8 fh0 fh1 g f8) (bodyRun.sl.r_51 c arg8 fh0 f8) (bodyRun.sl.r_52 c arg8 fh0 f8) (bodyRun.sl.v2907 c arg7 fh2 f7)
    = aggB (attSlab fh0 3) (sumB (fun l => layer fh1 l 3)) (tokSlab fh2 3) := by
  rw [← att3 c arg8 fh0 f8, ← sum3 c arg5 arg6 fh1 g, ← tok3 c arg7 fh2 f7]
  rfl

end Cert.KernelIdeal.Val

end
-- ==== Proof.IdealLaunch.lean ====
/- The launch of the kernel with its results named: what the two result arrays hold after every run, in terms of the
   argument arrays alone. -/
module

public import proofs.«01_k».proof.Proof.IdealFrame
public import proofs.«01_k».proof.Proof.Batches
public import Idealize.ShloMosaic.Lib.Pipeline.ValueKit.Geometry

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Rows

variable {κ : Kind} {sp : Space} {e : EltTy} {Val : EltTy → Type} {n k : ℕ}

/-- A row just stored is read back, -/
theorem row_hit (M : Memref sig κ sp ⟨3, ![4, n, k]⟩ e) (b : ℕ) (inb) (g : M.view.ty.Contents Val)
    (w : Shape.Idx ⟨3, ![1, n, k]⟩ → Val e) (i : Shape.Idx ⟨3, ![4, n, k]⟩) (h : (i 0).val = b) :
    M.view.read Val ((M.view.slice (Rect.unit (s := ⟨3, ![4, n, k]⟩) ![b, 0, 0] ![1, n, k] inb)).write Val g w Finset.univ) i
      = w (ix3 0 (i 1) (i 2)) := by
  have hi : (Rect.unit (s := ⟨3, ![4, n, k]⟩) ![b, 0, 0] ![1, n, k] inb).emb (ix3 0 (i 1) (i 2)) = i := by
    funext a
    fin_cases a
    · exact Fin.ext (by show b + 1 * 0 = (i 0).val; omega)
    · exact Fin.ext (by show 0 + 1 * (i 1).val = (i 1).val; omega)
    · exact Fin.ext (by show 0 + 1 * (i 2).val = (i 2).val; omega)
  conv_lhs => rw [← hi]
  exact congrFun (View.read_write_univ (v := M.view.slice (Rect.unit (s := ⟨3, ![4, n, k]⟩) ![b, 0, 0] ![1, n, k] inb)) g w) (ix3 0 (i 1) (i 2))

/-- and any other row reads as before the store. -/
theorem row_miss (M : Memref sig κ sp ⟨3, ![4, n, k]⟩ e) (b : ℕ) (inb) (g : M.view.ty.Contents Val)
    (w : Shape.Idx ⟨3, ![1, n, k]⟩ → Val e) (i : Shape.Idx ⟨3, ![4, n, k]⟩) (h : (i 0).val ≠ b) :
    M.view.read Val ((M.view.slice (Rect.unit (s := ⟨3, ![4, n, k]⟩) ![b, 0, 0] ![1, n, k] inb)).write Val g w Finset.univ) i
      = M.view.read Val g i := by
  refine View.read_congr_at (v := M.view) i (View.write_of_not_mem (v := M.view.slice (Rect.unit (s := ⟨3, ![4, n, k]⟩) ![b, 0, 0] ![1, n, k] inb)) g w Finset.univ ?_)
  intro hm
  obtain ⟨y, -, hy⟩ := Finset.mem_map.mp hm
  refine unit_miss inb i 0 ?_ y (M.view.emb.injective hy)
  show (i 0).val < b ∨ b + 1 ≤ (i 0).val
  omega

/-- Stores of the four rows leave each index of the array at its row's value. -/
theorem rows_read (M : Memref sig κ sp ⟨3, ![4, n, k]⟩ e) (f : M.view.ty.Contents Val)
    (p3 p2 p1 p0 : Shape.Idx ⟨3, ![1, n, k]⟩ → Val e) (i3 i2 i1 i0)
    (P : Fin 4 → Shape.Idx ⟨3, ![1, n, k]⟩ → Val e) (h3 : p3 = P 3) (h2 : p2 = P 2) (h1 : p1 = P 1) (h0 : p0 = P 0) :
    M.view.read Val (M.view.writes Val f
        [⟨Rect.unit (s := ⟨3, ![4, n, k]⟩) ![3, 0, 0] ![1, n, k] i3, p3⟩, ⟨Rect.unit (s := ⟨3, ![4, n, k]⟩) ![2, 0, 0] ![1, n, k] i2, p2⟩,
          ⟨Rect.unit (s := ⟨3, ![4, n, k]⟩) ![1, 0, 0] ![1, n, k] i1, p1⟩, ⟨Rect.unit (s := ⟨3, ![4, n, k]⟩) ![0, 0, 0] ![1, n, k] i0, p0⟩])
      = fun i => P (i 0) (ix3 0 (i 1) (i 2)) := by
  subst h3 h2 h1 h0
  funext i
  rw [View.writes_cons, View.writes_cons, View.writes_cons, View.writes_cons]
  have hb : (i 0).val < 4 := (i 0).isLt
  have key : ∀ b : Fin 4, (i 0).val = b.val → P b = P (i 0) := fun b h => congrArg P (Fin.ext h.symm)
  by_cases c3 : (i 0).val = 3
  · exact (row_hit M 3 i3 _ (P 3) i c3).trans (congrFun (key 3 c3) _)
  refine (row_miss M 3 i3 _ (P 3) i c3).trans ?_
  by_cases c2 : (i 0).val = 2
  · exact (row_hit M 2 i2 _ (P 2) i c2).trans (congrFun (key 2 c2) _)
  refine (row_miss M 2 i2 _ (P 2) i c2).trans ?_
  by_cases c1 : (i 0).val = 1
  · exact (row_hit M 1 i1 _ (P 1) i c1).trans (congrFun (key 1 c1) _)
  refine (row_miss M 1 i1 _ (P 1) i c1).trans ?_
  have c0 : (i 0).val = 0 := by omega
  exact (row_hit M 0 i0 _ (P 0) i c0).trans (congrFun (key 0 c0) _)

end Rows

variable {F : FTy → Type} [FloatOps F] [Named F]

local notation "𝕄" => MT nD τ sig Unit (Elt F) ℕ (Pipeline.UD sig nD τ) ℕ

/-- The aggregated tokens as a function of the three arguments: each batch row by `aggB` of that row's slabs, -/
def out0 (x0 : S4x577x1024.Idx → F .f32) (x1 : S9x4x577x1024.Idx → F .f32) (x2 : S4x16x577x577.Idx → F .f32) :
    S4x84x1024.Idx → F .f32 :=
  fun i => aggB (attSlab x2 (i 0)) (sumB fun l => layer x1 l (i 0)) (tokSlab x0 (i 0)) (ix3 0 (i 1) (i 2))

/-- and the chosen positions: each batch row by `benchB` of its attention. -/
def out1 (x2 : S4x16x577x577.Idx → F .f32) : S4x1x84.Idx → BitVec 32 :=
  fun i => benchB (attSlab x2 (i 0)) (ix3 0 (i 1) (i 2))

section Run

variable (c : Dev nD)
    (arg3 : Memref sig .tc .vmem S4x84x1024 .f32) (harg3 : arg3.IsWhole) (arg4 : Memref sig .tc .vmem S4x1x84 .i32) (harg4 : arg4.IsWhole)
    (arg5 : Memref sig .tc .vmem S9x577x1024 .f32) (harg5 : arg5.IsWhole) (arg6 : Memref sig .tc .vmem S577x1024 .f32) (harg6 : arg6.IsWhole)
    (arg7 : Memref sig .tc .vmem S4x577x1024 .f32) (harg7 : arg7.IsWhole) (arg8 : Memref sig .tc .vmem S4x16x1x577 .f32) (harg8 : arg8.IsWhole)
    (fh0 : HbBuf0 (F := F) c hbM0_0) (fh1 : HbBuf0 (F := F) c hbM0_1) (fh2 : HbBuf0 (F := F) c hbM0_2)
    (f3 : Buf (Elt F) (arg3.view.loc (c : Thread nD τ))) (f4 : Buf (Elt F) (arg4.view.loc (c : Thread nD τ))) (g : Buf (Elt F) (arg5.view.loc (c : Thread nD τ)))
    (f6 : Buf (Elt F) (arg6.view.loc (c : Thread nD τ))) (f7 : Buf (Elt F) (arg7.view.loc (c : Thread nD τ))) (f8 : Buf (Elt F) (arg8.view.loc (c : Thread nD τ)))

set_option maxHeartbeats 4000000 in
/-- What a run of the body leaves in the first output's buffer, -/
theorem left0 : arg3.view.read (Elt F)
      (bodyRun c arg3 harg3 arg4 harg4 arg5 harg5 arg6 harg6 arg7 harg7 arg8 harg8 fh0 fh1 fh2 f3 f4 g f6 f7 f8).1.1
    = out0 fh2 fh1 fh0 := by
  refine rows_read (n := 84) (k := 1024) arg3 f3 _ _ _ _ _ _ _ _
    (fun b => aggB (attSlab fh0 b) (sumB fun l => layer fh1 l b) (tokSlab fh2 b)) ?_ ?_ ?_ ?_
  · exact agg3 c arg5 arg6 arg7 arg8 fh0 fh1 fh2 g f7 f8
  · exact agg2 c arg5 arg6 arg7 arg8 fh0 fh1 fh2 g f7 f8
  · exact agg1 c arg5 arg6 arg7 arg8 fh0 fh1 fh2 g f7 f8
  · exact agg0 c arg5 arg6 arg7 arg8 fh0 fh1 fh2 g f7 f8

set_option maxHeartbeats 4000000 in
/-- and in the second's. -/
theorem left1 : arg4.view.read (Elt F)
      (bodyRun c arg3 harg3 arg4 harg4 arg5 harg5 arg6 harg6 arg7 harg7 arg8 harg8 fh0 fh1 fh2 f3 f4 g f6 f7 f8).1.2
    = out1 fh0 := by
  refine rows_read (n := 1) (k := 84) arg4 f4 _ _ _ _ _ _ _ _ (fun b => benchB (attSlab fh0 b)) ?_ ?_ ?_ ?_
  · exact bench3 c arg8 fh0 f8
  · exact bench2 c arg8 fh0 f8
  · exact bench1 c arg8 fh0 f8
  · exact bench0 c arg8 fh0 f8

end Run

attribute [local irreducible] out0 out1

variable (m : (ℓ : Loc nD τ sig) → Buf (Elt F) ℓ) (ρ : Dev nD → PrngReg)

/-- The proof data with the outputs named. -/
def vdats (_ : Fin 1) (c : Dev nD) : Dat τ (Elt F) Unit ℕ (Pipeline.UD sig nD τ) ℕ cfg0 c where
  A w := V m c (Pipeline.arrRef spec0 w)
  after w t := match w with
    | ⟨0, h⟩ => out0 (V m c main_arg0) (V m c main_arg1) (V m c main_arg2)
    | ⟨1, h⟩ => out1 (V m c main_arg2)
  Φ _ := Pipeline.ΦD osem0 spec0 H0 (V m) c
  q _ := fullShare
  owed _ := 0

theorem vA_eq (c : Dev nD) (w : Fin cfg0.W) : (vdats m 0 c).A w = V m c (Pipeline.arrRef spec0 w) := by
  dsimp only [vdats]

/-- The body's triple, its outputs named: any contents before, the named contents after. -/
theorem sound_named (c : Dev nD) (t : Fin cfg0.N) :
    iprop((vdats m 0 c).Φ t.castSucc ∗ (vdats m 0 c).owesAt () t.castSucc
        ∗ (∃ d, owns (c : Thread nD τ) (ms0_0 t) fullShare d)
        ∗ (∃ d, owns (c : Thread nD τ) (ms0_1 t) fullShare d))
      ⊢ wp Idealize.ShloMosaic.frame (wpE (defs₀ (F := F)) Variants.none c none) Set.univ (bodyAt0 t) (fun _ =>
          iprop((vdats m 0 c).Φ t.succ ∗ (vdats m 0 c).owesAt () t.succ
            ∗ owns (c : Thread nD τ) (ms0_0 t) fullShare (out0 (V m c main_arg0) (V m c main_arg1) (V m c main_arg2))
            ∗ owns (c : Thread nD τ) (ms0_1 t) fullShare (out1 (V m c main_arg2)))) := by
  unfold bodyAt0
  rw [show (vdats m 0 c).Φ t.succ = (vdats m 0 c).Φ t.castSucc from rfl]
  rw [show (vdats m 0 c).Φ t.castSucc = Pipeline.ΦD osem0 spec0 H0 (V m) c from rfl, phi_eq]
  unfold Dat.owesAt Pipeline.owesWithin
  rw [show (vdats m 0 c).owed t.castSucc = 0 from rfl, show (vdats m 0 c).owed t.succ = 0 from rfl]
  iintro ⟨⟨⟨HS0, HS1, HS2, HS3⟩, Hg, Hq, ⟨Hh0, Hh1, Hh2⟩⟩, ⟨%W, -, HW⟩, ⟨%d0, H0⟩, ⟨%d1, H1⟩⟩
  ihave HS0 := (ring_split c) $$ HS0
  icases HS0 with ⟨%g, HR, HX⟩
  unfold owns
  icases H0 with ⟨%f3, -, H0⟩
  icases H1 with ⟨%f4, -, H1⟩
  icases HS1 with ⟨%d6, %f6, -, HS1⟩
  icases HS2 with ⟨%d7, %f7, -, HS2⟩
  icases HS3 with ⟨%d8, %f8, -, HS3⟩
  iapply ((bodyRun c _ _ _ _ _ _ _ _ _ _ _ _ (V m c main_arg2) (V m c main_arg1) (V m c main_arg0) f3 f4 g f6 f7 f8).2 W _)
  isplitl [H0]; · iexact H0
  isplitl [H1]; · iexact H1
  isplitl [HR]; · iexact HR
  isplitl [HS1]; · iexact HS1
  isplitl [HS2]; · iexact HS2
  isplitl [HS3]; · iexact HS3
  isplitl [Hq]; · iexact Hq
  isplitl [Hh0]; · iexact Hh0
  isplitl [Hh1]; · iexact Hh1
  isplitl [Hh2]; · iexact Hh2
  isplitl [HW]; · iexact HW
  iintro ⟨H0, H1, HR, ⟨%e6, HS1⟩, ⟨%e7, HS2⟩, ⟨%e8, HS3⟩, Hq, Hh0, Hh1, Hh2, ⟨%W', HW'⟩⟩
  ihave HS0 := (ring_join c) $$ [HR HX]
  · isplitl [HR]; · iexact HR
    iexact HX
  isplitl [HS0 HS1 HS2 HS3 Hg Hq Hh0 Hh1 Hh2]
  · isplitl [HS0 HS1 HS2 HS3]
    · isplitl [HS0]; · unfold owns; iexact HS0
      isplitl [HS1]
      · iexists _, _; isplitr; swap; · iexact HS1
        ipureintro; rfl
      isplitl [HS2]
      · iexists _, _; isplitr; swap; · iexact HS2
        ipureintro; rfl
      iexists _, _; isplitr; swap; · iexact HS3
      ipureintro; rfl
    isplitl [Hg]; · iexact Hg
    isplitl [Hq]; · iexact Hq
    isplitl [Hh0]; · iexact Hh0
    isplitl [Hh1]; · iexact Hh1
    iexact Hh2
  isplitl [HW']
  · iexists W'; isplitr; · ipureintro; exact fun _ _ => Or.inl trivial
    iexact HW'
  isplitl [H0]
  · iexists _; isplitr; swap; · iexact H0
    ipureintro; exact left0 c _ _ _ _ _ _ _ _ _ _ _ _ _ _ _ _ _ _ _ _ _
  iexists _; isplitr; swap; · iexact H1
  ipureintro; exact left1 c _ _ _ _ _ _ _ _ _ _ _ _ _ _ _ _ _ _ _ _ _

/-- The library's body obligation for the named data. -/
theorem named_obligation (c : Dev nD) : BodyObligation (vdats (F := F) m 0 c) (defs₀ (F := F)) Variants.none () Set.univ := fun t => by
  rw [bigSep_W0, bigSep_W0, defs₀_row]
  refine triple_restated (sound_named m c t) rfl ?_ fun _ => .rfl
  iintro ⟨HP, HO, ⟨%d0, H0⟩, ⟨%d1, H1⟩⟩
  isplitl [HP]; · iexact HP
  isplitl [HO]; · iexact HO
  isplitl [H0]; · iexists _; iexact H0
  iexists _; iexact H1

set_option backward.isDefEq.respectTransparency.types false in
set_option maxHeartbeats 800000 in
/-- The launch: the arrays end at what the body left, the rest at what the host line makes of them. -/
theorem run_named : θ_run defs (onTc (τ := τ) (main (F := F))) (s₀ m ρ)
    (Pipeline.FramePost cfgs (vdats m) 0 (Pipeline.afterTail₀ cfgs (vdats m) 0 (V0 m) [hostOps1])) :=
  Pipeline.θ_run_frame_dma_around (Q' := _) cfgs (vdats m) (0 : Fin 1) launch0 osem0 defs₀ Variants.none ownSemFacts0 H0 H0_sub m ρ main
    (hbody := fun c => (named_obligation m c).loose) (hshare := fun c => (vdats m 0 c).share_full fun _ => rfl)
    (howed := fun _ _ => rfl) (V₀ := V0 m) (opss := [hostOps1]) (hsub := sfx_but) (hfresh := sfx_fresh) (hkeep := sfx_keeps)
    (hmain := hmain m Variants.none) (hA := vA_eq m) (hin := fun _ => .rfl) (hout := fun _ => .rfl)

theorem arr0 (c : Dev nD) : (vdats m 0 c).arrAt (0 : Fin 2) (cfgs 0).N = out0 (V m c main_arg0) (V m c main_arg1) (V m c main_arg2) :=
  Pipeline.Dat.arrAt_eq_of_after_last (vdats m 0 c) 0 ⟨0, by decide⟩ (by decide +kernel) _ fun j => rfl

theorem arr1 (c : Dev nD) : (vdats m 0 c).arrAt (1 : Fin 2) (cfgs 0).N = out1 (V m c main_arg2) :=
  Pipeline.Dat.arrAt_eq_of_after_last (vdats m 0 c) 1 ⟨0, by decide⟩ (by decide +kernel) _ fun j => rfl

end Cert.KernelIdeal.Val

end
-- ==== Proof.IdealResult.lean ====
/- What a run of the kernel leaves in its two results. -/
module

public import proofs.«01_k».proof.Proof.IdealLaunch
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.Sem

variable {F : FTy → Type} [FloatOps F] [Named F]

attribute [local irreducible] out0 out1

variable (m : (ℓ : Loc nD τ sig) → Buf (Elt F) ℓ) (ρ : Dev nD → PrngReg)

/-- The second result is the second output array without its axis of length one. -/
theorem tail1 (c : Dev nD) (b : Fin 4) (t : Fin 84) :
    (Pipeline.afterTail₀ cfgs (vdats m) 0 (V0 m) [hostOps1] c main_v0_1 : S4x84.Idx → BitVec 32) (ix2 b t)
      = out1 (V m c main_arg2) (ix3 b 0 t) := by
  unfold Pipeline.afterTail₀
  simp only [hostOps1, List.flatten_cons, List.flatten_nil, List.append_nil, StableHlo.after_cons, StableHlo.after_nil]
  rw [StableHlo.reshape_result']
  have e : (Pipeline.withArrays (cfgs 0).spec c (V0 m c) fun w => (vdats m 0 c).arrAt w (cfgs 0).N) (Proc.devRef .tc main_call0_v0_1) = out1 (V m c main_arg2) :=
    (Pipeline.withArrays_arr (cfgs 0).spec launch0.win.arr_inj c (V0 m c) _ (1 : Fin 2)).trans (arr1 m c)
  show shapeCast S4x84 (Pipeline.withArrays (cfgs 0).spec c (V0 m c) (fun w => (vdats m 0 c).arrAt w (cfgs 0).N) (Proc.devRef .tc main_call0_v0_1) : S4x1x84.Idx → BitVec 32)
    shapeCasts_S4x1x84_S4x84 (ix2 b t) = _
  rw [e]
  pointwise

theorem result : θ_run defs (onTc (τ := τ) (main (F := F))) ⟨m, fun _ => 0, ρ⟩ (fun r => ∀ c : Dev nD,
      r.2.mem ((c.tc : Thread nD τ).loc main_v0_0) = out0 (V m c main_arg0) (V m c main_arg1) (V m c main_arg2)
      ∧ r.2.mem ((c.tc : Thread nD τ).loc main_v0_1) = Pipeline.afterTail₀ cfgs (vdats m) 0 (V0 m) [hostOps1] c main_v0_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 0).trans (arr0 m c),
    (h c).2 main_v0_1 (Pipeline.mem_restRefs_of main_v0_1 (by decide) (by decide)),
    ((h c).2 main_arg0 (Pipeline.mem_restRefs_of main_arg0 (by decide) (by decide))).trans (W_main_arg0 m (vdats m) c),
    ((h c).2 main_arg1 (Pipeline.mem_restRefs_of main_arg1 (by decide) (by decide))).trans (W_main_arg1 m (vdats m) c),
    ((h c).2 main_arg2 (Pipeline.mem_restRefs_of main_arg2 (by decide) (by decide))).trans (W_main_arg2 m (vdats m) c)⟩) (run_named m ρ)

end Cert.KernelIdeal.Val

end
-- ==== Proof.Ranks.lean ====
module

public import Idealize.ShloMosaic.Lib.SortPrefix
public import Mathlib.Data.Fintype.Card
public import Mathlib.Order.Interval.Finset.Fin

@[expose] public section

/-! Sorting as ranks. The position a sort puts at place `i` is the one that exactly `i` positions precede; so the
first `k` places of a sort hold the elements fewer than `k` others precede. -/

namespace Cert.Ranks

open Idealize.ShloMosaic Finset

/-- The position a strict total order's sort puts at place `i` has exactly `i` positions before it. -/
theorem card_before_sortedFrom {n : ℕ} {B : Fin n → Fin n → Bool} (hB : StrictTotalBefore B) (i : Fin n) :
    (univ.filter fun y => B y (sortedFrom B i) = true).card = i.val := by
  have himg : (univ.filter fun y => B y (sortedFrom B i) = true) = (Finset.Iio i).image (sortedFrom B) := by
    ext y
    obtain ⟨j, rfl⟩ := sortedFrom_surjective B y
    simp only [mem_filter, mem_univ, true_and, mem_image, mem_Iio]
    constructor
    · intro h
      refine ⟨j, ?_, rfl⟩
      by_contra hij
      rcases eq_or_lt_of_le (not_lt.mp hij) with rfl | hlt
      · rw [hB.irrefl] at h; exact absurd h (by decide)
      · have := sortedFrom_noInversion B B hB.asymm (fun _ _ h => h) hB.negTrans i j hlt
        rw [this] at h; exact absurd h (by decide)
    · rintro ⟨l, hl, hlj⟩
      obtain rfl := sortedFrom_injective B hlj
      have hne : sortedFrom B l ≠ sortedFrom B i := fun e => hl.ne (sortedFrom_injective B e)
      rcases hB.total _ _ hne with h | h
      · exact h
      · have := sortedFrom_noInversion B B hB.asymm (fun _ _ h => h) hB.negTrans l i hl
        rw [this] at h; exact absurd h (by decide)
  rw [himg, card_image_of_injective _ (sortedFrom_injective B), Fin.card_Iio]

/-- `f` lists the elements with the property `C`, each once. -/
structure Lists {ι α : Type} (f : ι → α) (C : α → Prop) : Prop where
  inj : Function.Injective f
  mem : ∀ a, C a ↔ ∃ i, f i = a

namespace Lists

variable {ι α : Type} {f : ι → α} {C : α → Prop}

/-- Counting listed elements is counting places. -/
theorem card [Fintype ι] [Fintype α] [DecidablePred C] (h : Lists f C) (Q : α → Prop) [DecidablePred Q] :
    (univ.filter fun i => Q (f i)).card = (univ.filter fun a => C a ∧ Q a).card := by
  classical
  rw [← card_image_of_injective _ h.inj]
  congr 1
  ext a
  simp only [mem_image, mem_filter, mem_univ, true_and]
  constructor
  · rintro ⟨i, hi, rfl⟩; exact ⟨(h.mem _).2 ⟨i, rfl⟩, hi⟩
  · rintro ⟨hc, hq⟩; obtain ⟨i, rfl⟩ := (h.mem a).1 hc; exact ⟨i, hq, rfl⟩

variable {n : ℕ} {κ : Type} [LinearOrder κ]

/-- The order of the places by a key is a strict total one where the key tells listed elements apart. -/
theorem before {f : Fin n → α} (h : Lists f C) (key : α → κ) (hk : ∀ a b, C a → C b → key a = key b → a = b) :
    StrictTotalBefore fun i j : Fin n => decide (key (f i) < key (f j)) where
  irrefl a := by simp
  trans a b c hab hbc := by simp only [decide_eq_true_eq] at *; exact hab.trans hbc
  total a b hab := by
    simp only [decide_eq_true_eq]
    refine lt_or_gt_of_ne fun e => hab (h.inj (hk _ _ ((h.mem _).2 ⟨a, rfl⟩) ((h.mem _).2 ⟨b, rfl⟩) e))

/-- The element a sort by a key puts at place `i` has exactly `i` listed elements of smaller key. -/
theorem card_sorted [Fintype α] [DecidablePred C] {f : Fin n → α} (h : Lists f C) (key : α → κ)
    (hk : ∀ a b, C a → C b → key a = key b → a = b) (i : Fin n) :
    (univ.filter fun a => C a ∧ key a < key (f (sortedFrom (fun i j => decide (key (f i) < key (f j))) i))).card
      = i.val := by
  rw [← h.card fun a => key a < key (f (sortedFrom (fun i j => decide (key (f i) < key (f j))) i))]
  have := card_before_sortedFrom (h.before key hk) i
  simpa only [decide_eq_true_eq] using this

/-- A sort's first `k` places list the listed elements fewer than `k` others precede. -/
theorem first [Fintype α] [DecidablePred C] {f : Fin n → α} (h : Lists f C) (key : α → κ)
    (hk : ∀ a b, C a → C b → key a = key b → a = b) {k : ℕ} (hkn : k ≤ n) :
    Lists (fun i : Fin k => f (sortedFrom (fun i j => decide (key (f i) < key (f j))) (i.castLE hkn)))
      fun a => C a ∧ (univ.filter fun b => C b ∧ key b < key a).card < k where
  inj i j e := by
    have := sortedFrom_injective _ (h.inj e)
    exact Fin.ext (by simpa using congrArg Fin.val this)
  mem a := by
    constructor
    · rintro ⟨hc, hlt⟩
      obtain ⟨y, rfl⟩ := (h.mem a).1 hc
      obtain ⟨j, rfl⟩ := sortedFrom_surjective (fun i j : Fin n => decide (key (f i) < key (f j))) y
      rw [h.card_sorted key hk j] at hlt
      exact ⟨⟨j.val, hlt⟩, rfl⟩
    · rintro ⟨i, rfl⟩
      exact ⟨(h.mem _).2 ⟨_, rfl⟩, by rw [h.card_sorted key hk]; exact i.isLt⟩

/-- A whole sort lists the same elements. -/
theorem sorted {f : Fin n → α} (h : Lists f C) (B : Fin n → Fin n → Bool) :
    Lists (fun i => f (sortedFrom B i)) C where
  inj i j e := sortedFrom_injective _ (h.inj e)
  mem a := by
    rw [h.mem]
    constructor
    · rintro ⟨y, rfl⟩; obtain ⟨j, rfl⟩ := sortedFrom_surjective B y; exact ⟨j, rfl⟩
    · rintro ⟨i, rfl⟩; exact ⟨_, rfl⟩

end Lists

end Cert.Ranks

end
-- ==== Proof.Select.lean ====
module

public import proofs.«01_k».proof.Proof.Ranks
public import Mathlib.Data.EReal.Basic

@[expose] public section

/-! Which patches a batch selects, as a property of a patch and as lists in order. The 576 patches lie in 144 regions of four;
a patch is a candidate if fewer than three of its region score more, and selected if fewer than 84 candidates score more. -/

noncomputable section

namespace Cert.Select

open Idealize.ShloMosaic Finset Cert.Ranks
open scoped Classical

/-- The patch at place `k` of region `r`. -/
def cell (r : Fin 144) (k : Fin 4) : Fin 576 :=
  ⟨r.val / 12 * 48 + k.val / 2 * 24 + r.val % 12 * 2 + k.val % 2, by have := r.isLt; have := k.isLt; omega⟩

/-- The region of a patch. -/
def reg (p : Fin 576) : Fin 144 := ⟨p.val / 48 * 12 + p.val % 24 / 2, by have := p.isLt; omega⟩

theorem cell_lists (r : Fin 144) : Lists (cell r) (fun p => reg p = r) where
  inj k k' h := by
    have := congrArg Fin.val h
    simp only [cell] at this
    refine Fin.ext ?_
    have := k.isLt; have := k'.isLt; have := r.isLt
    omega
  mem p := by
    constructor
    · rintro rfl
      refine ⟨⟨p.val / 24 % 2 * 2 + p.val % 2, by omega⟩, Fin.ext ?_⟩
      simp only [cell, reg]
      have := p.isLt
      omega
    · rintro ⟨k, rfl⟩
      refine Fin.ext ?_
      simp only [cell, reg]
      have := k.isLt; have := r.isLt
      omega

variable (s : Fin 576 → EReal)

/-- A candidate: fewer than three of its region score more. -/
def Cand (p : Fin 576) : Prop := (univ.filter fun q => reg q = reg p ∧ s p < s q).card < 3

/-- A selected patch: a candidate such that fewer than 84 candidates score more. -/
def Sel (p : Fin 576) : Prop := Cand s p ∧ (univ.filter fun q => Cand s q ∧ s p < s q).card < 84

/-- The places of a region's three greatest scores. -/
def loc (r : Fin 144) (k : Fin 3) : Fin 4 :=
  sortedFrom (fun i j => decide (s (cell r j) < s (cell r i))) (k.castLE (by decide))

/-- The candidates, region after region. -/
def cand (i : Fin 432) : Fin 576 :=
  cell ⟨i.val / 3, by have := i.isLt; omega⟩ (loc s ⟨i.val / 3, by have := i.isLt; omega⟩ ⟨i.val % 3, by omega⟩)

/-- The places of the 84 greatest scores among the candidates. -/
def top (i : Fin 84) : Fin 432 :=
  sortedFrom (fun i j => decide (s (cand s j) < s (cand s i))) (i.castLE (by decide))

/-- The selected patches in increasing order. -/
def bench (t : Fin 84) : Fin 576 :=
  cand s (top s (sortedFrom (fun i j => decide (cand s (top s i) < cand s (top s j))) t))

/-- The selected patches by increasing score. -/
def ranked (t : Fin 84) : Fin 576 :=
  bench s (sortedFrom (fun i j => decide (s (bench s i) < s (bench s j))) t)

variable {s}

theorem cand_lists (hs : Function.Injective s) : Lists (cand s) (Cand s) := by
  have h (r : Fin 144) := (cell_lists r).first (fun p => OrderDual.toDual (s p))
    (fun a b _ _ e => hs (OrderDual.toDual.injective e)) (k := 3) (by decide)
  simp only [OrderDual.toDual_lt_toDual] at h
  constructor
  · intro i j e
    have hr : reg (cand s i) = reg (cand s j) := congrArg reg e
    have hi : reg (cand s i) = ⟨i.val / 3, by have := i.isLt; omega⟩ := ((cell_lists _).mem _).2 ⟨_, rfl⟩
    have hj : reg (cand s j) = ⟨j.val / 3, by have := j.isLt; omega⟩ := ((cell_lists _).mem _).2 ⟨_, rfl⟩
    have hd : i.val / 3 = j.val / 3 := by simpa using (hi.symm.trans hr).trans hj
    have hd' : (⟨i.val / 3, by have := i.isLt; omega⟩ : Fin 144) = ⟨j.val / 3, by have := j.isLt; omega⟩ := Fin.ext hd
    unfold cand at e
    rw [← hd'] at e
    have := congrArg Fin.val ((h _).inj e)
    simp only at this
    exact Fin.ext (by omega)
  · intro p
    have hp := (h (reg p)).mem p
    simp only [true_and] at hp
    refine Iff.trans hp ⟨?_, ?_⟩
    · rintro ⟨k, hk⟩
      refine ⟨⟨(reg p).val * 3 + k.val, by have := (reg p).isLt; have := k.isLt; omega⟩, ?_⟩
      have e1 : (⟨((reg p).val * 3 + k.val) / 3, by have := (reg p).isLt; have := k.isLt; omega⟩ : Fin 144) = reg p :=
        Fin.ext (by have := k.isLt; simp only; omega)
      have e2 : (⟨((reg p).val * 3 + k.val) % 3, by omega⟩ : Fin 3) = k := Fin.ext (by have := k.isLt; simp only; omega)
      refine Eq.trans ?_ hk
      unfold cand
      simp only [e1, e2]
      rfl
    · rintro ⟨i, rfl⟩
      have hi : reg (cand s i) = ⟨i.val / 3, by have := i.isLt; omega⟩ := ((cell_lists _).mem _).2 ⟨_, rfl⟩
      rw [hi]
      exact ⟨⟨i.val % 3, by omega⟩, rfl⟩

theorem top_lists (hs : Function.Injective s) : Lists (fun i => cand s (top s i)) (Sel s) := by
  have h := (cand_lists hs).first (fun p => OrderDual.toDual (s p))
    (fun a b _ _ e => hs (OrderDual.toDual.injective e)) (k := 84) (by decide)
  simp only [OrderDual.toDual_lt_toDual] at h
  exact h

/-- `bench` lists the selected patches. -/
theorem bench_lists (hs : Function.Injective s) : Lists (bench s) (Sel s) := (top_lists hs).sorted _

/-- Before the patch at place `t` of `bench` there are `t` selected ones. -/
theorem bench_card (hs : Function.Injective s) (t : Fin 84) :
    (univ.filter fun q => Sel s q ∧ q < bench s t).card = t.val := by
  have := (top_lists hs).card_sorted (fun p => p) (fun a b _ _ e => e) t
  exact this

theorem ranked_lists (hs : Function.Injective s) : Lists (ranked s) (Sel s) := (bench_lists hs).sorted _

/-- The patch at place `t` by score has `t` selected ones of lower score. -/
theorem ranked_card (hs : Function.Injective s) (t : Fin 84) :
    (univ.filter fun q => Sel s q ∧ s q < s (ranked s t)).card = t.val :=
  (bench_lists hs).card_sorted s (fun a b _ _ e => hs e) t

/-- A selected patch with `t` selected ones before it is the one at place `t`. -/
theorem eq_bench (hs : Function.Injective s) (t : Fin 84) (p : Fin 576) (hp : Sel s p)
    (hc : (univ.filter fun q => Sel s q ∧ q < p).card = t.val) : p = bench s t := by
  obtain ⟨t', rfl⟩ := ((bench_lists hs).mem p).1 hp
  rw [bench_card hs t'] at hc
  rw [Fin.ext hc]

theorem eq_ranked (hs : Function.Injective s) (t : Fin 84) (p : Fin 576) (hp : Sel s p)
    (hc : (univ.filter fun q => Sel s q ∧ s q < s p).card = t.val) : p = ranked s t := by
  obtain ⟨t', rfl⟩ := ((ranked_lists hs).mem p).1 hp
  rw [ranked_card hs t'] at hc
  rw [Fin.ext hc]

/-- The one-hot of `bench`: place `t` holds `p` exactly where `p` is selected after `t` selected ones. -/
theorem bench_iff (hs : Function.Injective s) (t : Fin 84) (p : Fin 576) :
    (Sel s p ∧ (univ.filter fun q => Sel s q ∧ q < p).card = t.val) ↔ p = bench s t := by
  refine ⟨fun h => eq_bench hs t p h.1 h.2, ?_⟩
  rintro rfl
  exact ⟨((bench_lists hs).mem _).2 ⟨t, rfl⟩, bench_card hs t⟩

theorem ranked_iff (hs : Function.Injective s) (t : Fin 84) (p : Fin 576) :
    (Sel s p ∧ (univ.filter fun q => Sel s q ∧ s q < s p).card = t.val) ↔ p = ranked s t := by
  refine ⟨fun h => eq_ranked hs t p h.1 h.2, ?_⟩
  rintro rfl
  exact ⟨((ranked_lists hs).mem _).2 ⟨t, rfl⟩, ranked_card hs t⟩

/-- Neither the lowest nor the highest of the selected has an infinite score. -/
theorem ranked_lt (hs : Function.Injective s) {t t' : Fin 84} (h : t < t') : s (ranked s t) < s (ranked s t') := by
  by_contra hc
  have hsub : (univ.filter fun q => Sel s q ∧ s q < s (ranked s t')) ⊆ univ.filter fun q => Sel s q ∧ s q < s (ranked s t) := by
    intro q
    simp only [mem_filter, mem_univ, true_and]
    exact fun ⟨a, b⟩ => ⟨a, b.trans_le (not_lt.mp hc)⟩
  have := card_le_card hsub
  rw [ranked_card hs, ranked_card hs] at this
  exact absurd h (not_lt.mpr (Fin.le_def.mpr this))

end Cert.Select

end
-- ==== Proof.RefA.lean ====
module

public import proofs.«01_k».proof.Proof.Gen.ReferenceIdeal.Run
public import Idealize.ShloMosaic.Lib.Pointwise
public import Idealize.ShloMosaic.Lib.SortFacts
public import proofs.«01_k».proof.Proof.Select

@[expose] public section

set_option maxRecDepth 16384

noncomputable section

namespace Cert.Ref

open Idealize.ShloMosaic Idealize.SL.Sem Cert.ReferenceIdeal Cert.ReferenceIdeal.Gen Cert.ReferenceIdeal.Value Cert.Select

theorem along_last2 {m n : ℕ} (b : Fin m) (k : Fin n) (p : 1 < 2) (i : Fin n) :
    Shape.Idx.along (s := ⟨2, ![m, n]⟩) (ix2 b k) ⟨1, p⟩ i = ix2 b i := by
  funext a; fin_cases a <;> rfl

theorem along_last3 {l m n : ℕ} (b : Fin l) (r : Fin m) (k : Fin n) (p : 2 < 3) (i : Fin n) :
    Shape.Idx.along (s := ⟨3, ![l, m, n]⟩) (ix3 b r k) ⟨2, p⟩ i = ix3 b r i := by
  funext a; fin_cases a <;> rfl

/-- A sort along the second of two axes, read at one place. -/
theorem sort_at {m n : ℕ} {α : Type} (cmp : α → α → BitVec 1) (x : (⟨2, ![m, n]⟩ : Shape).Idx → α) (b : Fin m) (k : Fin n) :
    Host.sort ⟨2, ![m, n]⟩ 1 cmp x (ix2 b k)
      = x (ix2 b (sortedFrom (fun i j => cmp (x (ix2 b i)) (x (ix2 b j)) == 1#1) k)) := by
  unfold Host.sort
  rw [dif_pos (by show 1 < 2; decide)]
  refine (congrArg x (along_last2 b k (by decide) _)).trans ?_
  exact congrArg (fun f => x (ix2 b (sortedFrom f k)))
    (funext fun i => funext fun j => congrArg₂ (fun a c => cmp (x a) (x c) == 1#1) (along_last2 b k (by decide) i) (along_last2 b k (by decide) j))

/-- A sort of two operands along the last of three axes: the second result, read at one place. -/
theorem sort2_at3 {l m n : ℕ} {α β : Type} (cmp : α × β → α × β → BitVec 1) (x : (⟨3, ![l, m, n]⟩ : Shape).Idx → α)
    (y : (⟨3, ![l, m, n]⟩ : Shape).Idx → β) (b : Fin l) (r : Fin m) (k : Fin n) :
    (Host.sort2 ⟨3, ![l, m, n]⟩ 2 cmp x y).2 (ix3 b r k)
      = y (ix3 b r (sortedFrom (fun i j => cmp (x (ix3 b r i), y (ix3 b r i)) (x (ix3 b r j), y (ix3 b r j)) == 1#1) k)) := by
  unfold Host.sort2
  rw [dif_pos (by show 2 < 3; decide)]
  refine (congrArg y (along_last3 b r k (by decide) _)).trans ?_
  exact congrArg (fun f => y (ix3 b r (sortedFrom f k)))
    (funext fun i => funext fun j => congrArg₂ (fun a c => cmp (x a, y a) (x c, y c) == 1#1)
      (along_last3 b r k (by decide) i) (along_last3 b r k (by decide) j))

/-- A sort of two operands along the second of two axes: the second result, read at one place. -/
theorem sort2_at2 {m n : ℕ} {α β : Type} (cmp : α × β → α × β → BitVec 1) (x : (⟨2, ![m, n]⟩ : Shape).Idx → α)
    (y : (⟨2, ![m, n]⟩ : Shape).Idx → β) (b : Fin m) (k : Fin n) :
    (Host.sort2 ⟨2, ![m, n]⟩ 1 cmp x y).2 (ix2 b k)
      = y (ix2 b (sortedFrom (fun i j => cmp (x (ix2 b i), y (ix2 b i)) (x (ix2 b j), y (ix2 b j)) == 1#1) k)) := by
  unfold Host.sort2
  rw [dif_pos (by show 1 < 2; decide)]
  refine (congrArg y (along_last2 b k (by decide) _)).trans ?_
  exact congrArg (fun f => y (ix2 b (sortedFrom f k)))
    (funext fun i => funext fun j => congrArg₂ (fun a c => cmp (x a, y a) (x c, y c) == 1#1)
      (along_last2 b k (by decide) i) (along_last2 b k (by decide) j))

/-- The positions a top-k along the last of three axes gives, read at one place. -/
theorem topK_at3 {l m n k : ℕ} {α : Type} (gt : α → α → BitVec 1) (x : (⟨3, ![l, m, n]⟩ : Shape).Idx → α) (hk : k ≤ n)
    (hs : (⟨3, ![l, m, n]⟩ : Shape).Slices (fun _ => 0) ⟨3, ![l, m, k]⟩) (b : Fin l) (r : Fin m) (i : Fin k) :
    (Host.topK ⟨3, ![l, m, k]⟩ 2 gt x hs).2 (ix3 b r i)
      = BitVec.ofNat 32 (sortedFrom (fun i j => gt (x (ix3 b r i)) (x (ix3 b r j)) == 1#1) (i.castLE hk)).val := by
  simp only [Host.topK, extractStridedSlice]
  refine (congrArg _ (?_ : _ = ix3 b r (i.castLE hk))).trans ?_
  · funext a; fin_cases a <;> exact Fin.ext (Nat.zero_add _)
  rw [sort2_at3, dif_pos (by show 2 < 3; decide)]
  rfl

/-- The positions a top-k along the second of two axes gives, read at one place. -/
theorem topK_at2 {m n k : ℕ} {α : Type} (gt : α → α → BitVec 1) (x : (⟨2, ![m, n]⟩ : Shape).Idx → α) (hk : k ≤ n)
    (hs : (⟨2, ![m, n]⟩ : Shape).Slices (fun _ => 0) ⟨2, ![m, k]⟩) (b : Fin m) (i : Fin k) :
    (Host.topK ⟨2, ![m, k]⟩ 1 gt x hs).2 (ix2 b i)
      = BitVec.ofNat 32 (sortedFrom (fun i j => gt (x (ix2 b i)) (x (ix2 b j)) == 1#1) (i.castLE hk)).val := by
  simp only [Host.topK, extractStridedSlice]
  refine (congrArg _ (?_ : _ = ix2 b (i.castLE hk))).trans ?_
  · funext a; fin_cases a <;> exact Fin.ext (Nat.zero_add _)
  rw [sort2_at2, dif_pos (by show 1 < 2; decide)]
  rfl

theorem toNat_word {n m : ℕ} (h : n < m) (hm : m ≤ 2 ^ 31) : (BitVec.ofNat 32 n).toInt.toNat = n := by
  have : (BitVec.ofNat 32 n).toInt = n := by
    rw [BitVec.toInt_eq_toNat_of_lt (by simp; omega)]; simp; omega
  rw [this]; rfl

/-- A gather of single elements, row by row, read at one place whose index is known. -/
theorem gather_at {l n k : ℕ} {α : Type} (d : GatherDims ⟨2, ![l, n]⟩ ⟨3, ![l, k, 1]⟩ ⟨2, ![l, k]⟩)
    (h1 : d.offsetDims = []) (h2 : d.collapsedSliceDims = [1]) (h3 : d.operandBatchingDims = [0])
    (h4 : d.startIndicesBatchingDims = [0]) (h5 : d.startIndexMap = [1]) (h6 : d.indexVectorDim = 2)
    (h7 : d.sliceSizes = ![1, 1]) (hn : n ≤ 2 ^ 31)
    (x : (⟨2, ![l, n]⟩ : Shape).Idx → α) (idx : IVec ⟨3, ![l, k, 1]⟩ 32) (b : Fin l) (i : Fin k) (q : Fin n)
    (h : idx (ix3 b i 0) = BitVec.ofNat 32 q.val) : Host.gather d x idx (ix2 b i) = x (ix2 b q) := by
  obtain ⟨o, c, ob, sb, sm, iv, ss, wf⟩ := d
  simp only at h1 h2 h3 h4 h5 h6 h7
  subst h1 h2 h3 h4 h5 h6 h7
  unfold Host.gather
  congr 1
  funext a
  fin_cases a
  · refine Fin.ext ?_
    simp (decide := true) [GatherDims.operandIdx, GatherDims.start, GatherDims.batchCoord, GatherDims.offCoord, GatherDims.siCoord]
    rfl
  · refine Fin.ext ?_
    simp (decide := true) [GatherDims.operandIdx, GatherDims.start, GatherDims.batchCoord, GatherDims.offCoord, GatherDims.siCoord]
    have hs (p : 0 < 1) : GatherDims.siIdx (s := ⟨2, ![l, n]⟩) (si := ⟨3, ![l, k, 1]⟩) (t := ⟨2, ![l, k]⟩)
        ⟨[], [1], [0], [0], [1], 2, ![1, 1], wf⟩ (ix2 b i) ⟨0, p⟩ = ix3 b i 0 := by
      funext a; fin_cases a <;> rfl
    have hk : GatherDims.sKept (s := ⟨2, ![l, n]⟩) (si := ⟨3, ![l, k, 1]⟩) (t := ⟨2, ![l, k]⟩)
        ⟨[], [1], [0], [0], [1], 2, ![1, 1], wf⟩ = [] := by
      exact (by decide : (List.finRange 2).filter (fun x => decide (x ∉ [(1 : Fin 2)] ++ [0])) = [])
    rw [dif_neg (by rw [hk]; exact List.not_mem_nil)]
    refine (congrArg (fun j => min (idx j).toInt.toNat (n - 1) + 0) (hs (by decide))).trans ?_
    show min (idx (ix3 b i 0)).toInt.toNat (n - 1) + 0 = q.val
    rw [h, toNat_word q.isLt hn]
    have := q.isLt
    omega

/-- The score of a patch: the first query's attention to it, summed over the heads. -/
def score (x : Vec Ideal S4x16x577x577 .f32) (b : Fin 4) (p : Fin 576) : EReal :=
  ∑ h : Fin 16, x (ix4 b h 0 ⟨1 + p.val, by have := p.isLt; omega⟩)

variable (V : Valuation τ sig (Elt Ideal))

/-- The scores of a batch in the arguments a valuation gives. -/
abbrev sc (b : Fin 4) : Fin 576 → EReal := score (V (Proc.devRef .tc main_arg2)) b

theorem v26_at (b : Fin 4) (p : Fin 576) : res_main_v26 V (ix2 b p) = sc V b p := by
  pointwise [res_main_v26, sc, score]

theorem v30_at (b : Fin 4) (r : Fin 144) (k : Fin 4) : res_main_v30 V (ix3 b r k) = sc V b (cell r k) := by
  pointwise [res_main_v30]
  exact v26_at V b _

/-- The float order of the sorts is the order of the extended reals. -/
theorem gt_eq (x y : EReal) : (FloatOps.cmpfTotal (F := Ideal) (φ := .f32) .gt x y == 1#1) = decide (y < x) := by
  show (BitVec.ofBool (decide (y < x)) == 1#1) = _
  by_cases h : y < x <;> simp [h]

theorem indices_at (b : Fin 4) (r : Fin 144) (k : Fin 3) :
    res_main_indices V (ix3 b r k) = BitVec.ofNat 32 (loc (sc V b) r k).val := by
  unfold res_main_indices
  rw [topK_at3 _ _ (by decide)]
  simp only [v30_at, gt_eq]
  rfl

/-- The candidate's patch number, computed from its region and place as 32-bit words. -/
theorem v50_at (b : Fin 4) (i : Fin 432) : res_main_v50 V (ix2 b i) = BitVec.ofNat 32 (cand (sc V b) i).val := by
  pointwise [res_main_v50, res_main_v34, res_main_call0_v0, res_main_call0_v2, res_main_call1_v0, res_main_call1_v2,
    res_main_call1_v4, res_main_call2_v0, res_main_call2_v2, res_main_call3_v0, res_main_call3_v2, res_main_call3_v4]
  rw [indices_at]
  unfold cand
  generalize loc (sc V b) _ _ = k
  generalize hr : (⟨i.val / 3, _⟩ : Fin 144) = r
  have hr' : i.val / 3 = r.val := congrArg Fin.val hr
  rw [hr']
  clear hr hr'
  simp only [id, constantI]
  show @Eq (BitVec 32) _ _
  revert r k
  decide +kernel

theorem word_not_neg : ∀ {n : ℕ}, n < 576 → IntOp.cmpi .slt (BitVec.ofNat 32 n) 0#32 = 0#1 := by
  decide +kernel

theorem v51_at (b : Fin 4) (i : Fin 432) : res_main_v51 V (ix2 b i) = sc V b (cand (sc V b) i) := by
  unfold res_main_v51
  refine (gather_at _ rfl rfl rfl rfl rfl rfl rfl (by decide) _ _ _ _ (cand (sc V b) i) ?_).trans (v26_at V b _)
  pointwise
  rw [v50_at, word_not_neg (Fin.isLt _)]
  rfl

theorem indices_11_at (b : Fin 4) (t : Fin 84) :
    res_main_indices_11 V (ix2 b t) = BitVec.ofNat 32 (top (sc V b) t).val := by
  unfold res_main_indices_11
  rw [topK_at2 _ _ (by decide)]
  simp only [v51_at, gt_eq]
  rfl

theorem word_int {n : ℕ} (h : n < 576) : (BitVec.ofNat 32 n).toInt = n := by
  rw [BitVec.toInt_eq_toNat_of_lt (by simp; omega), BitVec.toNat_ofNat, Nat.mod_eq_of_lt (by omega)]

theorem word_lt (p q : Fin 576) : (comparator_i32_d1 (BitVec.ofNat 32 p.val) (BitVec.ofNat 32 q.val) == 1#1) = decide (p < q) := by
  show (BitVec.ofBool ((BitVec.ofNat 32 p.val).slt (BitVec.ofNat 32 q.val)) == 1#1) = _
  rw [BitVec.slt_eq_decide, word_int p.isLt, word_int q.isLt]
  by_cases h : p < q <;> simp [h, Fin.lt_def.mp]

/-- The reference's second result: the selected patches of a batch in increasing order. -/
theorem v53_at (b : Fin 4) (t : Fin 84) : res_main_v53 V (ix2 b t) = BitVec.ofNat 32 (bench (sc V b) t).val := by
  have h (t : Fin 84) : Host.gather gather_S4x432_S4x84x1_S4x84_n_1_0_0_1_2_11 (res_main_v50 V) (shapeCast _ (select (cmpi .slt (res_main_indices_11 V) (broadcastInDim S4x84 ![] bcast_S_S4x84 (constantI S_ 32 0#32))) (addi (res_main_indices_11 V) (broadcastInDim S4x84 ![] bcast_S_S4x84 (constantI S_ 32 432#32))) (res_main_indices_11 V)) shapeCasts_S4x84_S4x84x1) (ix2 b t)
      = BitVec.ofNat 32 (cand (sc V b) (top (sc V b) t)).val := by
    refine (gather_at _ rfl rfl rfl rfl rfl rfl rfl (by decide) _ _ _ _ (top (sc V b) t) ?_).trans (v50_at V b _)
    pointwise
    rw [indices_11_at, word_not_neg ((Fin.isLt _).trans (by decide))]
    rfl
  unfold res_main_v53
  rw [sort_at]
  simp only [h, word_lt]
  rfl

theorem v68_at (b : Fin 4) (t : Fin 84) : res_main_v68 V (ix2 b t) = sc V b (bench (sc V b) t) := by
  unfold res_main_v68
  refine (gather_at _ rfl rfl rfl rfl rfl rfl rfl (by decide) _ _ _ _ (bench (sc V b) t) ?_).trans (v26_at V b _)
  pointwise
  rw [v53_at, word_not_neg (Fin.isLt _)]
  rfl

theorem float_lt (x y : EReal) : (comparator_f32_d1 (F := Ideal) x y == 1#1) = decide (x < y) := by
  have hz : (FloatOps.ofBits .f32 0x00000000#32 : Ideal .f32) = (0 : EReal) := Ideal.ofBits_zero_f32
  have hs (a : EReal) : Scalar.select (FloatOps.cmpf (F := Ideal) (φ := .f32) .une a a) (FloatOps.ofBits .f32 0x7FC00000#32 : Ideal .f32)
      (Scalar.select (FloatOps.cmpf (F := Ideal) (φ := .f32) .oeq a (FloatOps.ofBits .f32 0x00000000#32 : Ideal .f32))
        (FloatOps.ofBits .f32 0x00000000#32 : Ideal .f32) a) = a := by
    have h1 : FloatOps.cmpf (F := Ideal) (φ := .f32) .une a a = 0#1 := by
      show BitVec.ofBool (decide (a ≠ a)) = 0#1
      simp
    rw [h1, hz]
    have h2 : FloatOps.cmpf (F := Ideal) (φ := .f32) .oeq a (0 : EReal) = BitVec.ofBool (decide (a = 0)) := rfl
    rw [h2]
    by_cases h : a = 0 <;> simp [Scalar.select, h]
  show (FloatOps.cmpfTotal (F := Ideal) (φ := .f32) .lt (Scalar.select _ _ (Scalar.select _ _ _)) (Scalar.select _ _ (Scalar.select _ _ _)) == 1#1) = _
  rw [hs, hs]
  show (BitVec.ofBool (decide (x < y)) == 1#1) = _
  by_cases h : x < y <;> simp [h]

theorem v69_at (b : Fin 4) (t : Fin 84) : res_main_v69 V (ix2 b t) = sc V b (ranked (sc V b) t) := by
  unfold res_main_v69
  rw [sort_at]
  simp only [v68_at, float_lt]
  rfl

end Cert.Ref

end
-- ==== Proof.Values.lean ====
/- The kernel's integer and order steps of one batch row, read at an index. -/
module

public import proofs.«01_k».proof.Proof.Chain
public import proofs.«01_k».proof.Proof.Loads
public import proofs.«01_k».proof.Proof.Select
public import proofs.«01_k».proof.Proof.RefA
public import Idealize.ShloMosaic.Lib.Pointwise

@[expose] public section

set_option maxRecDepth 16384

noncomputable section

namespace Cert.KernelIdeal.Val

open Cert.KernelIdeal.Gen
open Idealize.ShloMosaic Idealize.ShloMosaic.TcCoe Idealize.ShloMosaic.Tactic
open Cert.Select
open scoped Classical

/-! ## Words of truth -/

/-- The word of a statement. -/
def bit (P : Prop) : BitVec 1 := BitVec.ofBool (decide P)

theorem bit_of (P : Prop) [Decidable P] : BitVec.ofBool (decide P) = bit P := by
  unfold bit; congr

theorem bit_and (P Q : Prop) :
    IntOp.andi (bit P) (bit Q) = bit (P ∧ Q) := by
  by_cases hp : P <;> by_cases hq : Q <;> simp [bit, hp, hq, IntOp.andi]

theorem bit_or (P Q : Prop) :
    IntOp.ori (bit P) (bit Q) = bit (P ∨ Q) := by
  by_cases hp : P <;> by_cases hq : Q <;> simp [bit, hp, hq, IntOp.ori]

theorem and_zero (x : BitVec 1) : IntOp.andi x 0#1 = 0#1 := BitVec.and_zero
theorem zero_and (x : BitVec 1) : IntOp.andi 0#1 x = 0#1 := BitVec.zero_and
theorem and_one (x : BitVec 1) : IntOp.andi x 1#1 = x := BitVec.and_allOnes (x := x)

/-- Small numbers as words. -/
theorem small_int {n : ℕ} (h : n < 1000) : (BitVec.ofNat 32 n).toInt = n := by
  rw [BitVec.toInt_eq_toNat_of_lt (by simp; omega), BitVec.toNat_ofNat, Nat.mod_eq_of_lt (by omega)]

theorem word_slt {n k : ℕ} (h : n < 1000) (hk : k < 1000) :
    IntOp.cmpi .slt (BitVec.ofNat 32 n) (BitVec.ofNat 32 k) = bit (n < k) := by
  show BitVec.ofBool ((BitVec.ofNat 32 n).slt (BitVec.ofNat 32 k)) = _
  rw [BitVec.slt_eq_decide, small_int h, small_int hk, bit_of, Nat.cast_lt]

theorem word_eq {n k : ℕ} (h : n < 1000) (hk : k < 1000) :
    IntOp.cmpi .eq (BitVec.ofNat 32 n) (BitVec.ofNat 32 k) = bit (n = k) := by
  unfold IntOp.cmpi
  show BitVec.ofBool (BitVec.ofNat 32 n == BitVec.ofNat 32 k) = _
  by_cases hn : n = k
  · simp [bit, hn]
  · have : BitVec.ofNat 32 n ≠ BitVec.ofNat 32 k := fun e => hn (by
      have := congrArg BitVec.toNat e
      rwa [BitVec.toNat_ofNat, BitVec.toNat_ofNat, Nat.mod_eq_of_lt (by omega), Nat.mod_eq_of_lt (by omega)] at this)
    rw [beq_eq_false_iff_ne.mpr this]; simp [bit, hn]

/-- A choice by a word of truth. -/
theorem select_bool {α : Type} (P : Prop) (x y : α) :
    Scalar.select (bit P) x y = if P then x else y := by
  by_cases h : P <;> simp [bit, h, Scalar.select]

theorem fold_count {ι : Type} (S : Finset ι) (c : ι → BitVec 1) :
    Finset.fold IntOp.addi (0#32) (fun j => Scalar.select (c j) 1#32 0#32) S = BitVec.ofNat 32 (S.filter fun j => c j = 1#1).card := by
  induction S using Finset.induction_on with
  | empty => rfl
  | insert j S hj ih =>
    rw [Finset.fold_insert hj, ih, Finset.filter_insert]
    by_cases h : c j = 1#1
    · rw [if_pos h, Finset.card_insert_of_notMem (fun hm => hj (Finset.mem_filter.mp hm).1)]
      show Scalar.select (c j) 1#32 0#32 + _ = _
      rw [h, BitVec.ofNat_add, BitVec.add_comm]
      rfl
    · rw [if_neg h]
      show Scalar.select (c j) 1#32 0#32 + _ = _
      rw [show Scalar.select (c j) 1#32 0#32 = 0#32 from if_neg h, BitVec.zero_add]

/-- Counting over the positions, the class position never counted. -/
theorem count (c : Fin 577 → BitVec 1) (C : Fin 576 → Prop) [DecidablePred C] (h0 : c 0 = 0#1) (h : ∀ p : Fin 576, c p.succ = bit (C p)) :
    Finset.fold IntOp.addi (0#32) (fun j => Scalar.select (c j) 1#32 0#32) Finset.univ
      = BitVec.ofNat 32 (Finset.univ.filter C).card := by
  rw [fold_count, Fin.card_filter_univ_succ, if_neg (by rw [h0]; decide)]
  refine congrArg (fun S : Finset (Fin 576) => BitVec.ofNat 32 S.card) ?_
  ext p
  simp only [Finset.mem_filter, Finset.mem_univ, true_and, Function.comp, h, bit]
  by_cases hp : C p <;> simp [hp]

/-- Adding up words of which one alone is taken. -/
theorem fold_one {ι : Type} [Fintype ι] (c : ι → BitVec 1) (w : ι → BitVec 32) (j : ι) (hj : c j = 1#1)
    (h : ∀ i, i ≠ j → c i = 0#1) :
    Finset.fold IntOp.addi (0#32) (fun i => Scalar.select (c i) (w i) 0#32) Finset.univ = w j := by
  have hz : ∀ S : Finset ι, j ∉ S → Finset.fold IntOp.addi (0#32) (fun i => Scalar.select (c i) (w i) 0#32) S = 0#32 := by
    intro S
    induction S using Finset.induction_on with
    | empty => intro _; rfl
    | insert i S hi ih =>
      intro hn
      rw [Finset.fold_insert hi, ih (fun hm => hn (Finset.mem_insert_of_mem hm)), h i (fun e => hn (e ▸ Finset.mem_insert_self _ _))]
      rfl
  rw [← Finset.insert_erase (Finset.mem_univ j), Finset.fold_insert (Finset.notMem_erase j _), hz _ (Finset.notMem_erase j _), hj]
  exact BitVec.add_zero (w j)

theorem card_lt (C : Fin 576 → Prop) [DecidablePred C] : (Finset.univ.filter C).card < 1000 :=
  lt_of_le_of_lt (Finset.card_le_univ _) (by simp)

/-! ## Regions -/

/-- A patch's region number along the row, -/
theorem regRow_succ : ∀ p : Fin 576, regRow (ix2 0 p.succ) = BitVec.ofNat 32 (reg p).val := by decide +kernel
theorem regRow_zero : regRow (ix2 0 0) = BitVec.ofInt 32 (-1) := by decide +kernel

/-- the same down the column, -/
def regAll : IVec S577x1 32 :=
  addi regCol (select (andi (cmpi .ne (subi (k0_pay140 posCol) (extui 32 (cmpi .slt (k0_pay138 posCol) (broadcast S577x1 0#32)) natLt_1_32))
      (broadcast S577x1 1#32)) (cmpi .ne (remsi (k0_pay138 posCol) (broadcast S577x1 2#32)) (broadcast S577x1 0#32)))
    (subi (k0_pay139 posCol) (broadcast S577x1 1#32)) (k0_pay139 posCol))
theorem regAll_succ : ∀ p : Fin 576, regAll (ix2 p.succ 0) = BitVec.ofNat 32 (reg p).val := by decide +kernel
theorem regAll_zero : regAll (ix2 0 0) = BitVec.ofInt 32 (-1) := by decide +kernel

theorem same_at (p q : Fin 577) : same (ix2 p q) = IntOp.cmpi .eq (regAll (ix2 p 0)) (regRow (ix2 0 q)) := by
  unfold same k0_pay141 regAll
  pointwise
  rfl

/-- Two patches share a region exactly if their numbers agree; the class position shares with none. -/
theorem same_succ (p q : Fin 576) : same (ix2 p.succ q.succ) = bit (reg p = reg q) := by
  rw [same_at, regAll_succ, regRow_succ, word_eq (by have := (reg p).isLt; omega) (by have := (reg q).isLt; omega)]
  simp only [Fin.ext_iff]
theorem same_left : ∀ q : Fin 576, IntOp.cmpi .eq (BitVec.ofInt 32 (-1)) (BitVec.ofNat 32 (reg q).val) = 0#1 := by decide +kernel
theorem same_right : ∀ q : Fin 576, IntOp.cmpi .eq (BitVec.ofNat 32 (reg q).val) (BitVec.ofInt 32 (-1)) = 0#1 := by decide +kernel
theorem same_zero_succ (q : Fin 576) : same (ix2 0 q.succ) = 0#1 := by
  rw [same_at, regAll_zero, regRow_succ, same_left]
theorem same_succ_zero (q : Fin 576) : same (ix2 q.succ 0) = 0#1 := by
  rw [same_at, regAll_succ, regRow_zero, same_right]

/-! ## Scores -/

variable (a : Vec Ideal S1x16x1x577 .f32)

/-- A patch's score: the heads' attention added up. -/
def sA (p : Fin 576) : EReal := ∑ h : Fin 16, a (ix4 0 h 0 p.succ)

theorem mRow_succ (p : Fin 576) : mRow a (ix2 0 p.succ) = sA a p := by
  pointwise [mRow, k0_pay129, k0_pay128]
  rw [show (0#32) = BitVec.ofNat 32 0 from rfl, word_eq (by have := p.isLt; simp; omega) (by omega), select_bool, if_neg (by simp)]
  rfl

theorem mCol_at (p : Fin 577) : mCol a (ix2 p 0) = mRow a (ix2 0 p) := by
  pointwise [mCol, k0_pay130]
  rw [Finset.sum_eq_single p]
  · rw [word_eq (by have := p.isLt; omega) (by have := p.isLt; omega), select_bool, if_pos rfl]
    rfl
  · intro q _ hq
    rw [word_eq (by have := p.isLt; omega) (by have := q.isLt; omega), select_bool, if_neg (fun e => hq (Fin.ext e.symm))]
  · intro h; exact absurd (Finset.mem_univ _) h

variable {a} (hs : Function.Injective (sA a))

theorem beats_word (x y : EReal) (p q : Fin 576) (h : x = y → p = q) :
    IntOp.ori (FloatOps.cmpf (F := Ideal) (φ := .f32) .ogt x y)
      (IntOp.andi (FloatOps.cmpf (F := Ideal) (φ := .f32) .oeq x y) (IntOp.cmpi .slt (BitVec.ofNat 32 p.succ.val) (BitVec.ofNat 32 q.succ.val)))
      = bit (y < x) := by
  rw [word_slt (by have := p.isLt; simp; omega) (by have := q.isLt; simp; omega)]
  show IntOp.ori (BitVec.ofBool (decide (x > y))) (IntOp.andi (BitVec.ofBool (decide (x = y))) _) = _
  rw [bit_of, bit_of, bit_and, bit_or]
  refine congrArg bit (propext ?_)
  refine ⟨?_, Or.inl⟩
  rintro (h1 | ⟨h1, h2⟩)
  · exact h1
  · rw [h h1] at h2; exact absurd h2 (lt_irrefl _)

include hs in
/-- The column's patch beats the row's exactly if it scores more, -/
theorem beatsCol_succ (p q : Fin 576) : beatsCol a (ix2 p.succ q.succ) = bit (sA a q < sA a p) := by
  unfold beatsCol k0_pay142
  pointwise
  rw [mCol_at, mRow_succ, mRow_succ]
  exact beats_word _ _ p q fun e => hs e

include hs in
/-- and the other way round. -/
theorem beatsRow_succ (p q : Fin 576) : beatsRow a (ix2 p.succ q.succ) = bit (sA a p < sA a q) := by
  unfold beatsRow k0_pay143
  pointwise
  rw [mCol_at, mRow_succ, mRow_succ]
  exact beats_word _ _ q p fun e => hs e

/-! ## Candidates -/

include hs in
theorem fewRow_succ (q : Fin 576) : fewRow a (ix2 0 q.succ) = bit (Cand (sA a) q) := by
  have e : fewRow a (ix2 0 q.succ) = IntOp.cmpi .slt (Finset.fold IntOp.addi (0#32)
      (fun j => Scalar.select (IntOp.andi (same (ix2 j q.succ)) (beatsCol a (ix2 j q.succ))) 1#32 0#32) Finset.univ) 3#32 := by
    unfold fewRow k0_pay144
    pointwise
    rfl
  rw [e, count _ (fun p => reg p = reg q ∧ sA a q < sA a p) (by rw [same_zero_succ, zero_and])
    (fun p => by rw [same_succ, beatsCol_succ hs, bit_and]), show (3#32) = BitVec.ofNat 32 3 from rfl, word_slt (card_lt _) (by omega)]
  rfl

theorem pos_succ (q : Fin 576) : IntOp.cmpi .sgt (BitVec.ofNat 32 q.succ.val) (0#32) = bit True := by
  have := word_slt (n := 0) (k := q.succ.val) (by omega) (by have := q.isLt; simp; omega)
  refine Eq.trans ?_ (this.trans ?_)
  · rfl
  · exact congrArg bit (by simp)

/-- The candidates along the row, -/
def candRow (a : Vec Ideal S1x16x1x577 .f32) : IVec S1x577 1 := k0_pay146 posRow (fewRow a) k0_pay145
/-- and down the column. -/
def candCol (a : Vec Ideal S1x16x1x577 .f32) : IVec S577x1 1 := k0_pay147 same (beatsRow a)

include hs in
theorem candRow_succ (q : Fin 576) : candRow a (ix2 0 q.succ) = bit (Cand (sA a) q) := by
  have e : candRow a (ix2 0 q.succ) = IntOp.andi (fewRow a (ix2 0 q.succ)) (IntOp.cmpi .sgt (BitVec.ofNat 32 q.succ.val) (0#32)) := by
    unfold candRow k0_pay146 k0_pay145
    pointwise
  rw [e, fewRow_succ hs, pos_succ, bit_and, and_true]
theorem candRow_zero : candRow a (ix2 0 0) = 0#1 := by
  have e : candRow a (ix2 0 0) = IntOp.andi (fewRow a (ix2 0 0)) (IntOp.cmpi .sgt (BitVec.ofNat 32 0) (0#32)) := by
    unfold candRow k0_pay146 k0_pay145
    pointwise
  exact e.trans (and_zero _)

include hs in
theorem candCol_succ (q : Fin 576) : candCol a (ix2 q.succ 0) = bit (Cand (sA a) q) := by
  have e : candCol a (ix2 q.succ 0) = IntOp.andi (IntOp.cmpi .slt (Finset.fold IntOp.addi (0#32)
      (fun j => Scalar.select (IntOp.andi (same (ix2 q.succ j)) (beatsRow a (ix2 q.succ j))) 1#32 0#32) Finset.univ) 3#32)
      (IntOp.cmpi .sgt (BitVec.ofNat 32 q.succ.val) (0#32)) := by
    unfold candCol k0_pay147
    pointwise
  rw [e, count _ (fun p => reg p = reg q ∧ sA a q < sA a p) (by rw [same_succ_zero, zero_and])
    (fun p => by rw [same_succ, beatsRow_succ hs, bit_and]; simp only [eq_comm]), show (3#32) = BitVec.ofNat 32 3 from rfl,
    word_slt (card_lt _) (by omega), pos_succ, bit_and, and_true]
  rfl
theorem candCol_zero : candCol a (ix2 0 0) = 0#1 := by
  have e : candCol a (ix2 0 0) = IntOp.andi (IntOp.cmpi .slt (Finset.fold IntOp.addi (0#32)
      (fun j => Scalar.select (IntOp.andi (same (ix2 0 j)) (beatsRow a (ix2 0 j))) 1#32 0#32) Finset.univ) 3#32)
      (IntOp.cmpi .sgt (BitVec.ofNat 32 0) (0#32)) := by
    unfold candCol k0_pay147
    pointwise
  exact e.trans (and_zero _)

/-! ## The selected patches -/

include hs in
theorem selRow_succ (q : Fin 576) : selRow a (ix2 0 q.succ) = bit (Sel (sA a) q) := by
  have e : selRow a (ix2 0 q.succ) = IntOp.andi (candRow a (ix2 0 q.succ)) (IntOp.cmpi .slt (Finset.fold IntOp.addi (0#32)
      (fun j => Scalar.select (IntOp.andi (candCol a (ix2 j 0)) (beatsCol a (ix2 j q.succ))) 1#32 0#32) Finset.univ) 84#32) := by
    unfold selRow k0_pay148
    pointwise
    rfl
  rw [e, count _ (fun p => Cand (sA a) p ∧ sA a q < sA a p) (by rw [candCol_zero, zero_and])
    (fun p => by rw [candCol_succ hs, beatsCol_succ hs, bit_and]), show (84#32) = BitVec.ofNat 32 84 from rfl,
    word_slt (card_lt _) (by omega), candRow_succ hs, bit_and]
  rfl
theorem selRow_zero : selRow a (ix2 0 0) = 0#1 := by
  have e : ∃ w, selRow a (ix2 0 0) = IntOp.andi (candRow a (ix2 0 0)) w := by
    unfold selRow k0_pay148
    pointwise
    exact ⟨_, rfl⟩
  obtain ⟨w, e⟩ := e
  rw [e, candRow_zero, zero_and]

include hs in
theorem selCol_succ (q : Fin 576) : selCol a (ix2 q.succ 0) = bit (Sel (sA a) q) := by
  have e : selCol a (ix2 q.succ 0) = IntOp.andi (candCol a (ix2 q.succ 0)) (IntOp.cmpi .slt (Finset.fold IntOp.addi (0#32)
      (fun j => Scalar.select (IntOp.andi (candRow a (ix2 0 j)) (beatsRow a (ix2 q.succ j))) 1#32 0#32) Finset.univ) 84#32) := by
    unfold selCol k0_pay149
    pointwise
    rfl
  rw [e, count _ (fun p => Cand (sA a) p ∧ sA a q < sA a p) (by rw [candRow_zero, zero_and])
    (fun p => by rw [candRow_succ hs, beatsRow_succ hs, bit_and]), show (84#32) = BitVec.ofNat 32 84 from rfl,
    word_slt (card_lt _) (by omega), candCol_succ hs, bit_and]
  rfl
theorem selCol_zero : selCol a (ix2 0 0) = 0#1 := by
  have e : ∃ w, selCol a (ix2 0 0) = IntOp.andi (candCol a (ix2 0 0)) w := by
    unfold selCol k0_pay149
    pointwise
    exact ⟨_, rfl⟩
  obtain ⟨w, e⟩ := e
  rw [e, candCol_zero, zero_and]

/-! ## The selected patches in order -/

include hs in
theorem before_succ (q : Fin 576) :
    before a (ix2 0 q.succ) = BitVec.ofNat 32 (Finset.univ.filter fun p => Sel (sA a) p ∧ p < q).card := by
  have e : before a (ix2 0 q.succ) = Finset.fold IntOp.addi (0#32)
      (fun j : Fin 577 => Scalar.select (IntOp.andi (selCol a (ix2 j 0)) (IntOp.cmpi .slt (BitVec.ofNat 32 j.val) (BitVec.ofNat 32 q.succ.val))) 1#32 0#32)
      Finset.univ := by
    unfold before k0_pay150
    pointwise
    rfl
  rw [e, count _ (fun p => Sel (sA a) p ∧ p < q) (by rw [selCol_zero, zero_and])]
  intro p
  rw [selCol_succ hs, word_slt (by have := p.isLt; simp; omega) (by have := q.isLt; simp; omega), bit_and]
  simp only [Fin.val_succ, Nat.add_lt_add_iff_right, Fin.lt_def]

include hs in
/-- The one-hot of the patches in order. -/
theorem hot_succ (t : Fin 84) (q : Fin 576) : hot a (ix2 t q.succ) = bit (q = bench (sA a) t) := by
  have e : hot a (ix2 t q.succ) = IntOp.andi (selRow a (ix2 0 q.succ)) (IntOp.cmpi .eq (before a (ix2 0 q.succ)) (BitVec.ofNat 32 t.val)) := by
    unfold hot k0_pay153
    pointwise
  rw [e, selRow_succ hs, before_succ hs, word_eq (card_lt _) (by have := t.isLt; omega), bit_and]
  exact congrArg bit (propext (bench_iff hs t q))
theorem hot_zero (t : Fin 84) : hot a (ix2 t 0) = 0#1 := by
  have e : hot a (ix2 t 0) = IntOp.andi (selRow a (ix2 0 0)) (IntOp.cmpi .eq (before a (ix2 0 0)) (BitVec.ofNat 32 t.val)) := by
    unfold hot k0_pay153
    pointwise
  rw [e, selRow_zero, zero_and]

theorem bit_true {P : Prop} (h : P) : bit P = 1#1 := by simp [bit, h]
theorem bit_false {P : Prop} (h : ¬P) : bit P = 0#1 := by simp [bit, h]

include hs in
/-- The one-hot holds at the patch itself and nowhere else. -/
theorem hot_here (t : Fin 84) : hot a (ix2 t (bench (sA a) t).succ) = 1#1 := by
  rw [hot_succ hs, bit_true rfl]
include hs in
theorem hot_else (t : Fin 84) (j : Fin 577) (h : j ≠ (bench (sA a) t).succ) : hot a (ix2 t j) = 0#1 := by
  induction j using Fin.cases with
  | zero => exact hot_zero t
  | succ q => rw [hot_succ hs, bit_false fun e => h (by rw [e])]

/-- A position's number less one. -/
theorem pred_word (q : Fin 576) : IntOp.subi (BitVec.ofNat 32 q.succ.val) 1#32 = BitVec.ofNat 32 q.val := by
  show BitVec.ofNat 32 (q.val + 1) - 1#32 = _
  rw [BitVec.ofNat_add]
  exact BitVec.add_sub_cancel _ _

include hs in
/-- The t-th patch as a word, down the column, -/
theorem benchCol_at (t : Fin 84) : benchCol a (ix2 t 0) = BitVec.ofNat 32 (bench (sA a) t).val := by
  have e : benchCol a (ix2 t 0) = Finset.fold IntOp.addi (0#32)
      (fun j : Fin 577 => Scalar.select (hot a (ix2 t j)) (IntOp.subi (BitVec.ofNat 32 j.val) 1#32) 0#32) Finset.univ := by
    unfold benchCol k0_pay155
    pointwise
    rfl
  rw [e, fold_one (fun j => hot a (ix2 t j)) _ _ (hot_here hs t) (hot_else hs t), pred_word]

/-- the same condition with the two directions exchanged, -/
def hotCol (a : Vec Ideal S1x16x1x577 .f32) (t : Fin 84) (j : Fin 577) : BitVec 1 :=
  IntOp.andi (selCol a (ix2 j 0)) (IntOp.cmpi .eq (Finset.fold IntOp.addi (0#32)
    (fun k : Fin 577 => Scalar.select (IntOp.andi (selRow a (ix2 0 k)) (IntOp.cmpi .slt (BitVec.ofNat 32 k.val) (BitVec.ofNat 32 j.val))) 1#32 0#32)
    Finset.univ) (BitVec.ofNat 32 t.val))

include hs in
theorem hotCol_succ (t : Fin 84) (q : Fin 576) : hotCol a t q.succ = bit (q = bench (sA a) t) := by
  unfold hotCol
  rw [count _ (fun p => Sel (sA a) p ∧ p < q) (by rw [selRow_zero, zero_and]) (fun p => by
    rw [selRow_succ hs, word_slt (by have := p.isLt; simp; omega) (by have := q.isLt; simp; omega), bit_and]
    simp only [Fin.val_succ, Nat.add_lt_add_iff_right, Fin.lt_def]),
    selCol_succ hs, word_eq (card_lt _) (by have := t.isLt; omega), bit_and]
  exact congrArg bit (propext (bench_iff hs t q))

include hs in
theorem hotCol_else (t : Fin 84) (j : Fin 577) (h : j ≠ (bench (sA a) t).succ) : hotCol a t j = 0#1 := by
  induction j using Fin.cases with
  | zero => unfold hotCol; rw [selCol_zero, zero_and]
  | succ q => rw [hotCol_succ hs, bit_false fun e => h (by rw [e])]

include hs in
/-- and along the row. -/
theorem benchRow_at (t : Fin 84) : benchRow a (ix2 0 t) = BitVec.ofNat 32 (bench (sA a) t).val := by
  have e : benchRow a (ix2 0 t) = Finset.fold IntOp.addi (0#32)
      (fun j : Fin 577 => Scalar.select (hotCol a t j) (IntOp.subi (BitVec.ofNat 32 j.val) 1#32) 0#32) Finset.univ := by
    unfold benchRow k0_pay154 k0_pay151 k0_pay152
    pointwise
    rfl
  rw [e, fold_one _ _ (bench (sA a) t).succ (by rw [hotCol_succ hs, bit_true rfl]) (hotCol_else hs t), pred_word]

include hs in
/-- The stored positions. -/
theorem benchB_at (t : Fin 84) : benchB a (ix3 0 0 t) = BitVec.ofNat 32 (bench (sA a) t).val := by
  rw [← benchRow_at hs t]
  unfold benchB k0_pay1
  pointwise

end Cert.KernelIdeal.Val

end
-- ==== Proof.Spec.lean ====
/- The problem's mathematics of one batch: the weights of the selected patches and the aggregated tokens, on the extended reals. -/
module

public import Idealize.ShloMosaic.PureOps
public import Idealize.ShloMosaic.Lib.Pointwise
public import proofs.«01_k».proof.Proof.Select

@[expose] public section

noncomputable section

namespace Cert.Spec

open Idealize.ShloMosaic Cert.Select
open scoped Classical

/-- The mean over the nine layers. -/
def pt (y : Fin 9 → Fin 576 → Fin 1024 → EReal) (p : Fin 576) (d : Fin 1024) : EReal := Ideal.div (∑ l, y l p d) ((9 : ℝ) : EReal)

/-- The mean scaled to unit length. -/
def ptn (y : Fin 9 → Fin 576 → Fin 1024 → EReal) (p : Fin 576) (d : Fin 1024) : EReal :=
  Ideal.div (pt y p d) (max (Ideal.sqrt (∑ k, pt y p k * pt y p k)) (Ideal.ofBits .f32 0x2B8CBCCC#32))

def sim (y : Fin 9 → Fin 576 → Fin 1024 → EReal) (p q : Fin 576) : EReal := ∑ d, ptn y p d * ptn y q d

/-- The distance of two patches on the 24 by 24 grid. -/
def dist (p q : Fin 576) : ℝ :=
  Real.sqrt ((((p.val / 24 : ℕ) : ℝ) - ((q.val / 24 : ℕ) : ℝ)) ^ 2 + (((p.val % 24 : ℕ) : ℝ) - ((q.val % 24 : ℕ) : ℝ)) ^ 2)

/-- How much a patch counts for another by their distance. -/
def near (p q : Fin 576) : ℝ := 1 - min (dist p q / Real.sqrt 280) 1

/-- The distance is the root of the sum of the squared differences of the two coordinates. -/
theorem dist_eq (p q : Fin 576) :
    Ideal.sqrt (((((p.val / 24 : ℕ) : ℝ) : EReal) - (((q.val / 24 : ℕ) : ℝ) : EReal)) * ((((p.val / 24 : ℕ) : ℝ) : EReal) - (((q.val / 24 : ℕ) : ℝ) : EReal))
        + ((((p.val % 24 : ℕ) : ℝ) : EReal) - (((q.val % 24 : ℕ) : ℝ) : EReal)) * ((((p.val % 24 : ℕ) : ℝ) : EReal) - (((q.val % 24 : ℕ) : ℝ) : EReal)))
      = (dist p q : EReal) := by
  rw [← EReal.coe_sub, ← EReal.coe_sub, ← EReal.coe_mul, ← EReal.coe_mul, ← EReal.coe_add, Ideal.sqrt_coe, if_neg (not_lt.mpr (add_nonneg (mul_self_nonneg _) (mul_self_nonneg _)))]
  simp only [dist, sq]

/-- How near two patches are, the distance scaled by a product. -/
theorem near_mul (p q : Fin 576) : (1 : EReal) - min ((dist p q : EReal) * (((Real.sqrt 280)⁻¹ : ℝ) : EReal)) 1 = (near p q : EReal) := by
  unfold near
  have hm (x y : ℝ) : ((min x y : ℝ) : EReal) = min (x : EReal) (y : EReal) := EReal.coe_strictMono.monotone.map_min
  rw [← EReal.coe_mul, ← EReal.coe_one, ← hm, ← EReal.coe_sub]
  rfl

/-- How near two patches are, the distance scaled by a quotient. -/
theorem near_div (p q : Fin 576) : (1 : EReal) - min (Ideal.div (dist p q : EReal) (Ideal.sqrt ((280 : ℝ) : EReal))) 1 = (near p q : EReal) := by
  rw [Ideal.sqrt_coe, if_neg (by norm_num), Ideal.div_coe (by positivity), one_div]
  exact near_mul p q

theorem near_nonneg (p q : Fin 576) : 0 ≤ near p q := sub_nonneg.mpr (min_le_right _ _)

def frac : EReal := Ideal.ofBits .f32 0x3F0CCCCD#32 * Ideal.ofBits .f32 0x42A60000#32 - Ideal.ofBits .f32 0x42340000#32

/-- The threshold of the high scores: between the 45th and the 46th of the selected patches by score. -/
def thr (s : Fin 576 → EReal) : EReal := s (ranked s 45) * (1 - frac) + s (ranked s 46) * frac

/-- The unnormalised weight of patch `p` for the `t`-th selected patch. -/
def bw (s : Fin 576 → EReal) (y : Fin 9 → Fin 576 → Fin 1024 → EReal) (t : Fin 84) (p : Fin 576) : EReal :=
  max (sim y (bench s t) p) 0 * (near (bench s t) p : EReal) * (if p = bench s t then 1 else if thr s ≤ s (bench s t) then 0 else 1)

/-- The weight of patch `p` for the `t`-th selected patch. -/
def weight (s : Fin 576 → EReal) (y : Fin 9 → Fin 576 → Fin 1024 → EReal) (t : Fin 84) (p : Fin 576) : EReal :=
  if p = bench s t then 1 else Ideal.div (bw s y t p) ((∑ q, bw s y t q) + Ideal.ofBits .f32 0x322BCC77#32)

/-- The aggregated token of the `t`-th selected patch. -/
def agg (s : Fin 576 → EReal) (y : Fin 9 → Fin 576 → Fin 1024 → EReal) (a : Fin 576 → Fin 1024 → EReal) (t : Fin 84) (d : Fin 1024) :
    EReal :=
  ∑ p, weight s y t p * a p d

end Cert.Spec

end
-- ==== Proof.Consts.lean ====
/- The printed constants as real numbers. -/
module

public import Idealize.ShloMosaic.Lib.Pointwise

@[expose] public section

noncomputable section

namespace Cert.Consts

open Idealize.ShloMosaic

theorem nine : Ideal.ofBits .f32 0x41100000#32 = ((9 : ℝ) : EReal) := by
  simp [Ideal.ofBits, Ideal.ieee, -EReal.coe_mul]; norm_num
theorem reach2 : Ideal.ofBits .f32 0x438C0000#32 = ((280 : ℝ) : EReal) := by
  simp [Ideal.ofBits, Ideal.ieee, -EReal.coe_mul]; norm_num
theorem below : Ideal.ofBits .f32 0x42340000#32 = ((45 : ℝ) : EReal) := by
  simp [Ideal.ofBits, Ideal.ieee, -EReal.coe_mul]; norm_num
theorem top : Ideal.ofBits .f32 0x42A60000#32 = ((83 : ℝ) : EReal) := by
  simp [Ideal.ofBits, Ideal.ieee, -EReal.coe_mul]; norm_num
theorem level : Ideal.ofBits .f32 0x3F0CCCCD#32 = ((9227469 / 16777216 : ℝ) : EReal) := by
  simp [Ideal.ofBits, Ideal.ieee, -EReal.coe_mul]; norm_num
theorem eps12 : ∃ r : ℝ, 0 < r ∧ Ideal.ofBits .f32 0x2B8CBCCC#32 = (r : EReal) := by
  refine ⟨_, ?_, by simp [Ideal.ofBits, Ideal.ieee, -EReal.coe_mul]; rfl⟩
  positivity
theorem eps8 : ∃ r : ℝ, 0 < r ∧ Ideal.ofBits .f32 0x322BCC77#32 = (r : EReal) := by
  refine ⟨_, ?_, by simp [Ideal.ofBits, Ideal.ieee, -EReal.coe_mul]; rfl⟩
  positivity

end Cert.Consts

end
-- ==== Proof.Weights.lean ====
/- The kernel's weights and aggregated tokens of one batch row, read at an index. -/
module

public import proofs.«01_k».proof.Proof.Values
public import proofs.«01_k».proof.Proof.Spec
public import proofs.«01_k».proof.Proof.Consts
public import Idealize.ShloMosaic.Lib.IdealHost

@[expose] public section

set_option maxRecDepth 16384

noncomputable section

namespace Cert.KernelIdeal.Val

open Cert.KernelIdeal.Gen
open Idealize.ShloMosaic Idealize.ShloMosaic.TcCoe Idealize.ShloMosaic.Tactic
open Cert.Select
open scoped Classical

variable {a : Vec Ideal S1x16x1x577 .f32} (hs : Function.Injective (sA a)) (acc : Vec Ideal S577x1024 .f32) (x : Vec Ideal S1x577x1024 .f32)

attribute [local irreducible] benchScore below selRow mRow hot high simB farY farX

/-! ## Arrays at an index -/

theorem add_at {s : Shape} (x y : FVec Ideal s .f32) (i : s.Idx) : addf x y i = x i + y i := rfl
theorem sub_at {s : Shape} (x y : FVec Ideal s .f32) (i : s.Idx) : subf x y i = x i - y i := rfl
theorem mul_at {s : Shape} (x y : FVec Ideal s .f32) (i : s.Idx) : mulf x y i = x i * y i := rfl
theorem broadcast_at {α : Type} (s : Shape) (x : α) (i : s.Idx) : broadcast s x i = x := rfl

/-- Adding up values of which one alone is taken. -/
theorem sum_one {ι : Type} [Fintype ι] (c : ι → BitVec 1) (w : ι → EReal) (j : ι) (hj : c j = 1#1) (h : ∀ i, i ≠ j → c i = 0#1) :
    ∑ i, Scalar.select (c i) (w i) 0 = w j := by
  rw [Finset.sum_eq_single j]
  · rw [hj]; exact if_pos rfl
  · intro i _ hi; rw [h i hi]; exact if_neg (by decide)
  · exact fun hn => absurd (Finset.mem_univ j) hn

/-! ## The threshold -/

/-- The score of the selected patch with `n` selected patches below it, added up over the row. -/
def pickA (a : Vec Ideal S1x16x1x577 .f32) (n : BitVec 32) : FVec Ideal S1x1 .f32 :=
  shapeCast S1x1 (multiReduction .add [1] S1 (select (andi (selRow a) (cmpi .eq (shapeCast S1x577 (below a) shapeCasts_S577_S1x577) (broadcast S1x577 n)))
    (mRow a) (broadcast S1x577 (Scalar.ofBits .f32 0x00000000#32))) 0x00000000#32 reduces_S1x577_S1 (.inl rfl) rfl) shapeCasts_S1_S1x1

theorem pickA_at (n : BitVec 32) : pickA a n (ix2 0 0)
    = ∑ j : Fin 577, Scalar.select (IntOp.andi (selRow a (ix2 0 j)) (IntOp.cmpi .eq (below a (ix1 j)) n)) (mRow a (ix2 0 j)) 0 := by
  unfold pickA
  pointwise

/-- The score a selected patch is held against. -/
def cutA (a : Vec Ideal S1x16x1x577 .f32) : FVec Ideal S1x1 .f32 :=
  addf (pickA a 45#32) (mulf (broadcast S1x1 (Scalar.subf (Scalar.mulf (Scalar.ofBits .f32 0x3F0CCCCD#32) (Scalar.ofBits .f32 0x42A60000#32))
    (Scalar.ofBits .f32 0x42340000#32))) (subf (pickA a 46#32) (pickA a 45#32)))

theorem scalar_sub (x y : EReal) : Scalar.subf (F := Ideal) (φ := .f32) x y = x - y := rfl
theorem scalar_mul (x y : EReal) : Scalar.mulf (F := Ideal) (φ := .f32) x y = x * y := rfl

theorem frac_eq : Scalar.subf (F := Ideal) (φ := .f32) (Scalar.mulf (Scalar.ofBits .f32 0x3F0CCCCD#32) (Scalar.ofBits .f32 0x42A60000#32)) (Scalar.ofBits .f32 0x42340000#32) = Cert.Spec.frac := by
  rw [scalar_sub, scalar_mul]
  unfold Cert.Spec.frac
  simp only [Ideal.ofBits_def]

theorem cutA_at : cutA a (ix2 0 0)
    = pickA a 45#32 (ix2 0 0) + Cert.Spec.frac * (pickA a 46#32 (ix2 0 0) - pickA a 45#32 (ix2 0 0)) := by
  unfold cutA
  rw [add_at, mul_at, sub_at, broadcast_at, frac_eq]

theorem high_cut : high a = cmpf .oge (benchScore a) (broadcast S84x1 (extractAt ![0, 0] (cutA a) inpos_S1x1_p0_0)) := by
  unfold high k0_pay158 cutA pickA
  with_reducible rfl

theorem cut_at (v : FVec Ideal S1x1 .f32) : extractAt ![0, 0] v inpos_S1x1_p0_0 = v (ix2 0 0) := by
  pointwise

theorem ge_at {s : Shape} (x : FVec Ideal s .f32) (y : EReal) (i : s.Idx) : cmpf (F := Ideal) (φ := .f32) .oge x (broadcast s y) i = bit (y ≤ x i) := by
  show BitVec.ofBool (decide (y ≤ x i)) = _
  rw [bit_of]

theorem high_at (t : Fin 84) : high a (ix2 t 0) = bit (cutA a (ix2 0 0) ≤ benchScore a (ix2 t 0)) := by
  rw [high_cut, cut_at, ge_at]

include hs in
theorem benchScore_at (t : Fin 84) : benchScore a (ix2 t 0) = sA a (bench (sA a) t) := by
  have e : benchScore a (ix2 t 0) = ∑ j : Fin 577, Scalar.select (hot a (ix2 t j)) (mRow a (ix2 0 j)) 0 := by
    unfold benchScore k0_pay156 hot
    pointwise
  rw [e, sum_one (fun j => hot a (ix2 t j)) (fun j => mRow a (ix2 0 j)) _ (hot_here hs t) (hot_else hs t), mRow_succ]

theorem bit_not (P : Prop) : IntOp.xori (bit P) 1#1 = bit (¬P) := by
  by_cases h : P <;> simp [bit, h, IntOp.xori]

theorem word_ne {n k : ℕ} (h : n < 1000) (hk : k < 1000) :
    IntOp.cmpi .ne (BitVec.ofNat 32 n) (BitVec.ofNat 32 k) = bit (n ≠ k) := by
  rw [show bit (n ≠ k) = IntOp.xori (bit (n = k)) 1#1 from (bit_not _).symm, ← word_eq h hk]
  show BitVec.ofBool (!(BitVec.ofNat 32 n == BitVec.ofNat 32 k)) = BitVec.ofBool (BitVec.ofNat 32 n == BitVec.ofNat 32 k) ^^^ 1#1
  cases (BitVec.ofNat 32 n == BitVec.ofNat 32 k) <;> rfl

include hs in
/-- How many selected patches lie below a patch. -/
theorem below_succ (q : Fin 576) :
    below a (ix1 q.succ) = BitVec.ofNat 32 (Finset.univ.filter fun p => Sel (sA a) p ∧ sA a p < sA a q).card := by
  have e : below a (ix1 q.succ) = Finset.fold IntOp.addi (0#32)
      (fun j : Fin 577 => Scalar.select (IntOp.andi (selCol a (ix2 j 0)) (IntOp.andi (IntOp.xori (beatsCol a (ix2 j q.succ)) 1#1)
        (IntOp.cmpi .ne (BitVec.ofNat 32 j.val) (BitVec.ofNat 32 q.succ.val)))) 1#32 0#32) Finset.univ := by
    unfold below k0_pay157
    pointwise
  rw [e, count _ (fun p => Sel (sA a) p ∧ sA a p < sA a q) (by rw [selCol_zero, zero_and]) fun p => ?_]
  rw [selCol_succ hs, beatsCol_succ hs, bit_not, word_ne (by have := p.isLt; simp; omega) (by have := q.isLt; simp; omega), bit_and, bit_and]
  refine congrArg bit (propext (and_congr_right fun _ => ⟨fun h => lt_of_le_of_ne (not_lt.mp h.1) fun e => h.2 (by rw [hs e]), fun h => ⟨not_lt.mpr h.le, fun e => ?_⟩⟩))
  exact absurd h (by rw [show p = q from Fin.succ_injective _ (Fin.ext e)]; exact lt_irrefl _)

include hs in
/-- The sum over the row finds the selected patch of rank `k`. -/
theorem pickA_rank (k : Fin 84) : pickA a (BitVec.ofNat 32 k.val) (ix2 0 0) = sA a (ranked (sA a) k) := by
  have hq (q : Fin 576) : IntOp.andi (selRow a (ix2 0 q.succ)) (IntOp.cmpi .eq (below a (ix1 q.succ)) (BitVec.ofNat 32 k.val)) = bit (q = ranked (sA a) k) := by
    rw [selRow_succ hs, below_succ hs, word_eq (card_lt _) (by have := k.isLt; omega), bit_and]
    exact congrArg bit (propext (ranked_iff hs k q))
  rw [pickA_at, sum_one (fun j : Fin 577 => IntOp.andi (selRow a (ix2 0 j)) (IntOp.cmpi .eq (below a (ix1 j)) (BitVec.ofNat 32 k.val))) _
    (ranked (sA a) k).succ (by rw [hq, bit_true rfl]) (fun j hj => ?_), mRow_succ]
  induction j using Fin.cases with
  | zero => rw [selRow_zero, zero_and]
  | succ q => rw [hq, bit_false fun e => hj (by rw [e])]

/-- The fraction between the two ranks is a real between zero and one. -/
theorem frac_real : ∃ f : ℝ, 0 < f ∧ f < 1 ∧ Cert.Spec.frac = (f : EReal) := by
  refine ⟨9227469 / 16777216 * 83 - 45, by norm_num, by norm_num, ?_⟩
  unfold Cert.Spec.frac
  rw [Cert.Consts.level, Cert.Consts.top, Cert.Consts.below, ← EReal.coe_mul, ← EReal.coe_sub]

/-- Two ways to go part of the way from a smaller to a larger value. -/
theorem between (lo hi : EReal) (h : lo < hi) : lo + Cert.Spec.frac * (hi - lo) = lo * (1 - Cert.Spec.frac) + hi * Cert.Spec.frac := by
  obtain ⟨f, h0, h1, e⟩ := frac_real
  have hd : (1 : EReal) - (f : EReal) = ((1 - f : ℝ) : EReal) := by rw [← EReal.coe_one, ← EReal.coe_sub]
  rw [e, hd]
  induction lo with
  | bot => rw [EReal.bot_add, EReal.bot_mul_coe_of_pos (by linarith), EReal.bot_add]
  | top => exact absurd h not_top_lt
  | coe r =>
    induction hi with
    | bot => exact absurd h not_lt_bot
    | top => rw [EReal.top_sub_coe, EReal.coe_mul_top_of_pos h0, EReal.coe_add_top, EReal.top_mul_coe_of_pos h0, ← EReal.coe_mul, EReal.coe_add_top]
    | coe s =>
      rw [← EReal.coe_sub, ← EReal.coe_mul, ← EReal.coe_add, ← EReal.coe_mul, ← EReal.coe_mul, ← EReal.coe_add]
      exact congrArg _ (by ring)

include hs in
theorem cutA_thr : cutA a (ix2 0 0) = Cert.Spec.thr (sA a) := by
  rw [cutA_at, show (45#32) = BitVec.ofNat 32 (45 : Fin 84).val from rfl, show (46#32) = BitVec.ofNat 32 (46 : Fin 84).val from rfl,
    pickA_rank hs, pickA_rank hs]
  exact between _ _ (ranked_lt hs (by decide))

include hs in
/-- A selected patch counts as high if its score reaches the threshold. -/
theorem high_bit (t : Fin 84) : high a (ix2 t 0) = bit (Cert.Spec.thr (sA a) ≤ sA a (bench (sA a) t)) := by
  rw [high_at, cutA_thr hs, benchScore_at hs]

/-! ## The similarities -/

theorem layers_const : Named.named (F := Ideal) κ "inv_layers" (φ := .f32) 0x3DE38E39#32 = ((9⁻¹ : ℝ) : EReal) :=
  IdealRules.named_const.ideal_named_scalar _ _ _ _ rfl
theorem reach_const : Named.named (F := Ideal) κ "inv_reach" (φ := .f32) 0x3D74C867#32 = (((Real.sqrt 280)⁻¹ : ℝ) : EReal) :=
  IdealRules.named_const.ideal_named_scalar _ _ _ _ rfl

/-- The nine layers are added up. -/
theorem sumB_at (y : Fin 9 → Vec Ideal S1x577x1024 .f32) (j : Fin 577) (d : Fin 1024) : sumB y (ix2 j d) = ∑ l, y l (ix3 0 j d) := by
  have e : sumB y (ix2 j d) = y 0 (ix3 0 j d) + y 1 (ix3 0 j d) + y 2 (ix3 0 j d) + (y 3 (ix3 0 j d) + y 4 (ix3 0 j d) + y 5 (ix3 0 j d))
      + (y 6 (ix3 0 j d) + y 7 (ix3 0 j d) + y 8 (ix3 0 j d)) := by
    unfold sumB k0_pay127 k0_pay126 k0_pay125 k0_pay124
    pointwise
  rw [e, Fin.sum_univ_succ, Fin.sum_univ_eight]
  show _ = y 0 (ix3 0 j d) + (y 1 (ix3 0 j d) + y 2 (ix3 0 j d) + y 3 (ix3 0 j d) + y 4 (ix3 0 j d) + y 5 (ix3 0 j d) + y 6 (ix3 0 j d)
    + y 7 (ix3 0 j d) + y 8 (ix3 0 j d))
  abel

/-- The mean over the layers, -/
def ptA (acc : Vec Ideal S577x1024 .f32) (j : Fin 577) (d : Fin 1024) : EReal := acc (ix2 j d) * ((9⁻¹ : ℝ) : EReal)
/-- and the mean scaled to unit length. -/
def ptnA (acc : Vec Ideal S577x1024 .f32) (j : Fin 577) (d : Fin 1024) : EReal :=
  Ideal.div (ptA acc j d) (max (Ideal.sqrt (∑ k, ptA acc j k * ptA acc j k)) (Ideal.ofBits .f32 0x2B8CBCCC#32))

include hs in
theorem simB_at (t : Fin 84) (j : Fin 577) : simB a acc (ix2 t j) = ∑ d, ptnA acc (bench (sA a) t).succ d * ptnA acc j d := by
  have e : simB a acc (ix2 t j) = ∑ d, (∑ k : Fin 577, Scalar.select (hot a (ix2 t k)) (ptnA acc k d) 0) * ptnA acc j d := by
    unfold simB k0_pay159 ptnA ptA
    rw [← layers_const]
    pointwise
  rw [e]
  exact Finset.sum_congr rfl fun d _ => congrArg (· * ptnA acc j d)
    (sum_one (fun k => hot a (ix2 t k)) (fun k => ptnA acc k d) _ (hot_here hs t) (hot_else hs t))

variable {acc} {x} {y : Fin 9 → Fin 576 → Fin 1024 → EReal} {tok : Fin 576 → Fin 1024 → EReal}
  (hacc : ∀ p d, acc (ix2 p.succ d) = ∑ l, y l p d) (hx : ∀ p d, x (ix3 0 p.succ d) = tok p d)

include hacc in
theorem ptA_succ (p : Fin 576) (d : Fin 1024) : ptA acc p.succ d = Cert.Spec.pt y p d := by
  unfold ptA Cert.Spec.pt
  rw [hacc, Ideal.div_coe (by norm_num), one_div]

include hacc in
theorem ptnA_succ (p : Fin 576) (d : Fin 1024) : ptnA acc p.succ d = Cert.Spec.ptn y p d := by
  unfold ptnA Cert.Spec.ptn
  simp only [ptA_succ hacc]

include hs hacc in
theorem simB_succ (t : Fin 84) (q : Fin 576) : simB a acc (ix2 t q.succ) = Cert.Spec.sim y (bench (sA a) t) q := by
  rw [simB_at hs]
  unfold Cert.Spec.sim
  simp only [ptnA_succ hacc]

/-! ## The distances -/

/-- The row of a patch on the grid, as words, -/
def div24 (w : BitVec 32) : BitVec 32 :=
  Scalar.select (IntOp.andi (IntOp.cmpi .ne (IntOp.subi (BitVec.setWidth 32 (IntOp.cmpi .sgt w 0#32)) (BitVec.setWidth 32 (IntOp.cmpi .slt w 0#32)))
      (Scalar.subi (Scalar.extui (Scalar.cmpi .sgt 24#32 0#32)) (Scalar.extui (Scalar.cmpi .slt 24#32 0#32))))
    (IntOp.cmpi .ne (IntOp.remsi .vector w 24#32) 0#32)) (IntOp.subi (IntOp.divsi .vector w 24#32) 1#32) (IntOp.divsi .vector w 24#32)
/-- and its column. -/
def mod24 (w : BitVec 32) : BitVec 32 :=
  Scalar.select (IntOp.andi (IntOp.xori (IntOp.cmpi .slt (IntOp.remsi .vector w (Scalar.select (Scalar.cmpi .eq 24#32 0#32) 1#32 24#32)) 0#32)
      (Scalar.cmpi .slt (Scalar.select (Scalar.cmpi .eq 24#32 0#32) 1#32 24#32) 0#32))
    (IntOp.cmpi .ne (IntOp.remsi .vector w (Scalar.select (Scalar.cmpi .eq 24#32 0#32) 1#32 24#32)) 0#32))
    (IntOp.addi (IntOp.remsi .vector w (Scalar.select (Scalar.cmpi .eq 24#32 0#32) 1#32 24#32)) (Scalar.select (Scalar.cmpi .eq 24#32 0#32) 1#32 24#32))
    (IntOp.remsi .vector w (Scalar.select (Scalar.cmpi .eq 24#32 0#32) 1#32 24#32))

theorem div24_at : ∀ p : Fin 576, div24 (BitVec.ofNat 32 p.val) = BitVec.ofNat 32 (p.val / 24) := by decide +kernel
theorem mod24_at : ∀ p : Fin 576, mod24 (BitVec.ofNat 32 p.val) = BitVec.ofNat 32 (p.val % 24) := by decide +kernel

/-- A small word as a float. -/
theorem float_word {n : ℕ} (h : n < 1000) : FloatOps.sitofp (F := Ideal) .f32 (BitVec.ofNat 32 n) = ((n : ℝ) : EReal) := by
  show ((((BitVec.ofNat 32 n).toInt : ℤ) : ℝ) : EReal) = _
  rw [small_int h, Int.cast_natCast]

include hs in
theorem farY_succ (t : Fin 84) (q : Fin 576) : farY a (ix2 t q.succ)
    = (((((bench (sA a) t).val / 24 : ℕ) : ℝ) : EReal) - (((q.val / 24 : ℕ) : ℝ) : EReal)) * (((((bench (sA a) t).val / 24 : ℕ) : ℝ) : EReal) - (((q.val / 24 : ℕ) : ℝ) : EReal)) := by
  have e : farY a (ix2 t q.succ) = (FloatOps.sitofp (F := Ideal) .f32 (div24 (benchCol a (ix2 t 0))) - FloatOps.sitofp (F := Ideal) .f32 (div24 (IntOp.subi (BitVec.ofNat 32 q.succ.val) 1#32)))
      * (FloatOps.sitofp (F := Ideal) .f32 (div24 (benchCol a (ix2 t 0))) - FloatOps.sitofp (F := Ideal) .f32 (div24 (IntOp.subi (BitVec.ofNat 32 q.succ.val) 1#32))) := by
    unfold farY k0_pay165 k0_pay164 k0_pay163 k0_pay161 k0_pay160 div24
    pointwise
  rw [e, benchCol_at hs, pred_word, div24_at, div24_at, float_word (by have := (bench (sA a) t).isLt; omega), float_word (by have := q.isLt; omega)]

include hs in
theorem farX_succ (t : Fin 84) (q : Fin 576) : farX a (ix2 t q.succ)
    = (((((bench (sA a) t).val % 24 : ℕ) : ℝ) : EReal) - (((q.val % 24 : ℕ) : ℝ) : EReal)) * (((((bench (sA a) t).val % 24 : ℕ) : ℝ) : EReal) - (((q.val % 24 : ℕ) : ℝ) : EReal)) := by
  have e : farX a (ix2 t q.succ) = (FloatOps.sitofp (F := Ideal) .f32 (mod24 (benchCol a (ix2 t 0))) - FloatOps.sitofp (F := Ideal) .f32 (mod24 (IntOp.subi (BitVec.ofNat 32 q.succ.val) 1#32)))
      * (FloatOps.sitofp (F := Ideal) .f32 (mod24 (benchCol a (ix2 t 0))) - FloatOps.sitofp (F := Ideal) .f32 (mod24 (IntOp.subi (BitVec.ofNat 32 q.succ.val) 1#32))) := by
    unfold farX k0_pay166 k0_pay162 mod24
    pointwise
  rw [e, benchCol_at hs, pred_word, mod24_at, mod24_at, float_word (by omega), float_word (by omega)]

/-! ## The weights -/

/-- How near a position counts as being, -/
def nearA (a : Vec Ideal S1x16x1x577 .f32) : FVec Ideal S84x577 .f32 :=
  subf (broadcast S84x577 (Scalar.ofBits .f32 0x3F800000#32)) (minimumf (mulf (sqrt (addf (farY a) (farX a))) (broadcast S84x577 (Named.named κ "inv_reach" 0x3D74C867#32)))
    (broadcast S84x577 (Scalar.ofBits .f32 0x3F800000#32)))

/-- which positions count at all, -/
def maskA (a : Vec Ideal S1x16x1x577 .f32) : FVec Ideal S84x577 .f32 :=
  select (cmpi .eq posT (broadcast S84x577 0#32)) (broadcast S84x577 (Scalar.ofBits .f32 0x00000000#32))
    (select (hot a) (broadcast S84x577 (Scalar.ofBits .f32 0x3F800000#32)) (broadcastTo S84x577 (shapeCast S84x1 (select (high a)
      (broadcast S84x1 (Scalar.ofBits .f32 0x00000000#32)) (broadcast S84x1 (Scalar.ofBits .f32 0x3F800000#32))) shapeCasts_S84x1_S84x1) broadcasts_S84x1_S84x577))

/-- the unnormalised weights, -/
def bwA (a : Vec Ideal S1x16x1x577 .f32) (acc : Vec Ideal S577x1024 .f32) : FVec Ideal S84x577 .f32 :=
  mulf (mulf (maximumf (simB a acc) (broadcast S84x577 (Scalar.ofBits .f32 0x00000000#32))) (nearA a)) (maskA a)

/-- and their sums. -/
def denA (a : Vec Ideal S1x16x1x577 .f32) (acc : Vec Ideal S577x1024 .f32) : FVec Ideal S84x1 .f32 :=
  addf (shapeCast S84x1 (multiReduction .add [1] S84 (bwA a acc) 0x00000000#32 reduces_S84x577_S84 (.inl rfl) rfl) shapeCasts_S84_S84x1)
    (broadcast S84x1 (Scalar.ofBits .f32 0x322BCC77#32))

/-- The weights. -/
def wA (a : Vec Ideal S1x16x1x577 .f32) (acc : Vec Ideal S577x1024 .f32) : FVec Ideal S84x577 .f32 :=
  select (hot a) (broadcast S84x577 (Scalar.ofBits .f32 0x3F800000#32))
    (divf (bwA a acc) (broadcastTo S84x577 (denA a acc) broadcasts_S84x1_S84x577))

theorem aggB_w : aggB a acc x = shapeCast S1x84x1024 (matmul (φ₁ := .f32) (φ₂ := .f32) dot_S84x577_S577x1024_S84x1024_1_0_0_1_n_n none (wA a acc)
    (shapeCast S577x1024 x shapeCasts_S1x577x1024_S577x1024) (constant S84x1024 .f32 0x00000000#32)) shapeCasts_S84x1024_S1x84x1024 := by
  unfold aggB k0_pay167 wA denA bwA nearA maskA
  with_reducible rfl

theorem aggB_at (t : Fin 84) (d : Fin 1024) : aggB a acc x (ix3 0 t d) = ∑ j : Fin 577, wA a acc (ix2 t j) * x (ix3 0 j d) := by
  rw [aggB_w]
  pointwise

theorem wA_at (t : Fin 84) (j : Fin 577) : wA a acc (ix2 t j)
    = Scalar.select (hot a (ix2 t j)) 1 (Ideal.div (bwA a acc (ix2 t j)) (denA a acc (ix2 t 0))) := by
  unfold wA
  pointwise

theorem denA_at (t : Fin 84) : denA a acc (ix2 t 0) = (∑ j : Fin 577, bwA a acc (ix2 t j)) + Ideal.ofBits .f32 0x322BCC77#32 := by
  unfold denA
  pointwise

theorem nearA_at (t : Fin 84) (j : Fin 577) : nearA a (ix2 t j)
    = 1 - min (Ideal.sqrt (farY a (ix2 t j) + farX a (ix2 t j)) * Named.named (F := Ideal) κ "inv_reach" (φ := .f32) 0x3D74C867#32) 1 := by
  unfold nearA
  pointwise

theorem maskA_at (t : Fin 84) (j : Fin 577) : maskA a (ix2 t j)
    = Scalar.select (IntOp.cmpi .eq (BitVec.ofNat 32 j.val) 0#32) 0 (Scalar.select (hot a (ix2 t j)) 1 (Scalar.select (high a (ix2 t 0)) 0 1)) := by
  unfold maskA
  pointwise

theorem max_at {s : Shape} (x : FVec Ideal s .f32) (i : s.Idx) : maximumf x (broadcast s (Scalar.ofBits .f32 0x00000000#32)) i = max (x i) 0 := by
  show max (x i) (Ideal.ofBits .f32 0x00000000#32) = _
  rw [Ideal.ofBits_zero_f32]

theorem bwA_at (t : Fin 84) (j : Fin 577) : bwA a acc (ix2 t j) = max (simB a acc (ix2 t j)) 0 * nearA a (ix2 t j) * maskA a (ix2 t j) := by
  unfold bwA
  rw [mul_at, mul_at, max_at]

include hs in
theorem nearA_succ (t : Fin 84) (q : Fin 576) : nearA a (ix2 t q.succ) = (Cert.Spec.near (bench (sA a) t) q : EReal) := by
  rw [nearA_at, farY_succ hs, farX_succ hs, reach_const, Cert.Spec.dist_eq, Cert.Spec.near_mul]

theorem maskA_zero (t : Fin 84) : maskA a (ix2 t 0) = 0 := by
  rw [maskA_at]
  exact if_pos (by decide)

include hs in
theorem maskA_succ (t : Fin 84) (q : Fin 576) :
    maskA a (ix2 t q.succ) = if q = bench (sA a) t then 1 else if Cert.Spec.thr (sA a) ≤ sA a (bench (sA a) t) then 0 else 1 := by
  rw [maskA_at, hot_succ hs, high_bit hs, show (0#32) = BitVec.ofNat 32 0 from rfl, word_eq (by have := q.isLt; simp; omega) (by omega),
    bit_false (by simp), select_bool, select_bool]
  exact (if_neg (by decide)).trans (by congr)

theorem bwA_zero (t : Fin 84) : bwA a acc (ix2 t 0) = 0 := by
  rw [bwA_at, maskA_zero, mul_zero]

include hs hacc in
theorem bwA_succ (t : Fin 84) (q : Fin 576) : bwA a acc (ix2 t q.succ) = Cert.Spec.bw (sA a) y t q := by
  rw [bwA_at, simB_succ hs hacc, nearA_succ hs, maskA_succ hs]
  unfold Cert.Spec.bw
  congr

include hs hacc in
theorem denA_eq (t : Fin 84) : denA a acc (ix2 t 0) = (∑ q, Cert.Spec.bw (sA a) y t q) + Ideal.ofBits .f32 0x322BCC77#32 := by
  rw [denA_at, Fin.sum_univ_succ, bwA_zero, zero_add]
  simp only [bwA_succ hs hacc]

theorem bw_nonneg (s : Fin 576 → EReal) (t : Fin 84) (q : Fin 576) : 0 ≤ Cert.Spec.bw s y t q := by
  unfold Cert.Spec.bw
  refine mul_nonneg (mul_nonneg (le_max_right _ _) (EReal.coe_nonneg.mpr (Cert.Spec.near_nonneg _ _))) ?_
  split_ifs <;> simp

/-- The sums of the weights are never zero. -/
theorem den_ne (s : Fin 576 → EReal) (t : Fin 84) : (∑ q, Cert.Spec.bw s y t q) + Ideal.ofBits .f32 0x322BCC77#32 ≠ 0 := by
  obtain ⟨r, hr, e⟩ := Cert.Consts.eps8
  rw [e]
  exact (lt_of_lt_of_le (EReal.coe_pos.mpr hr) (le_add_of_nonneg_left (Finset.sum_nonneg fun q _ => bw_nonneg s t q))).ne'

include hs hacc in
theorem wA_zero (t : Fin 84) : wA a acc (ix2 t 0) = 0 := by
  rw [wA_at, hot_zero, bwA_zero, denA_eq hs hacc, Ideal.zero_div (den_ne _ _)]
  exact if_neg (by decide)

include hs hacc in
theorem wA_succ (t : Fin 84) (q : Fin 576) : wA a acc (ix2 t q.succ) = Cert.Spec.weight (sA a) y t q := by
  rw [wA_at, hot_succ hs, bwA_succ hs hacc, denA_eq hs hacc, select_bool]
  unfold Cert.Spec.weight
  congr

include hs hacc hx in
/-- The aggregated tokens of the batch row. -/
theorem aggB_eq (t : Fin 84) (d : Fin 1024) : aggB a acc x (ix3 0 t d) = Cert.Spec.agg (sA a) y tok t d := by
  rw [aggB_at, Fin.sum_univ_succ, wA_zero hs hacc, zero_mul, zero_add]
  unfold Cert.Spec.agg
  simp only [wA_succ hs hacc, hx]

end Cert.KernelIdeal.Val

end
-- ==== Proof.RefB.lean ====
/- The reference's weights and its first result, read entry by entry. -/
module

public import proofs.«01_k».proof.Proof.RefA
public import proofs.«01_k».proof.Proof.Spec
public import proofs.«01_k».proof.Proof.Consts

@[expose] public section

noncomputable section

namespace Cert.Ref

open Cert.ReferenceIdeal Cert.ReferenceIdeal.Gen Cert.ReferenceIdeal.Value Cert.Select
open Idealize.ShloMosaic
open scoped Classical

/-- A gather of whole rows, batch by batch, read at one place whose index is known. -/
theorem gather_row_at {l m n k : ℕ} {α : Type} (d : GatherDims ⟨3, ![l, m, n]⟩ ⟨3, ![l, k, 1]⟩ ⟨3, ![l, k, n]⟩)
    (h1 : d.offsetDims = [2]) (h2 : d.collapsedSliceDims = [1]) (h3 : d.operandBatchingDims = [0])
    (h4 : d.startIndicesBatchingDims = [0]) (h5 : d.startIndexMap = [1]) (h6 : d.indexVectorDim = 2)
    (h7 : d.sliceSizes = ![1, 1, n]) (hn : m ≤ 2 ^ 31)
    (x : (⟨3, ![l, m, n]⟩ : Shape).Idx → α) (idx : IVec ⟨3, ![l, k, 1]⟩ 32) (b : Fin l) (i : Fin k) (q : Fin m) (j : Fin n)
    (h : idx (ix3 b i 0) = BitVec.ofNat 32 q.val) : Host.gather d x idx (ix3 b i j) = x (ix3 b q j) := by
  obtain ⟨o, c, ob, sb, sm, iv, ss, wf⟩ := d
  simp only at h1 h2 h3 h4 h5 h6 h7
  subst h1 h2 h3 h4 h5 h6 h7
  unfold Host.gather
  congr 1
  have hk : GatherDims.sKept (s := ⟨3, ![l, m, n]⟩) (si := ⟨3, ![l, k, 1]⟩) (t := ⟨3, ![l, k, n]⟩)
      ⟨[2], [1], [0], [0], [1], 2, ![1, 1, n], wf⟩ = [2] := by
    exact (by decide : (List.finRange 3).filter (fun x => decide (x ∉ [(1 : Fin 3)] ++ [0])) = [2])
  funext a
  fin_cases a
  · refine Fin.ext ?_
    simp (decide := true) [GatherDims.operandIdx, GatherDims.start, GatherDims.batchCoord, GatherDims.offCoord, GatherDims.siCoord, hk]
    rfl
  · refine Fin.ext ?_
    simp (decide := true) [GatherDims.operandIdx, GatherDims.start, GatherDims.batchCoord, GatherDims.offCoord, GatherDims.siCoord, hk]
    have hs (p : 0 < 1) : GatherDims.siIdx (s := ⟨3, ![l, m, n]⟩) (si := ⟨3, ![l, k, 1]⟩) (t := ⟨3, ![l, k, n]⟩)
        ⟨[2], [1], [0], [0], [1], 2, ![1, 1, n], wf⟩ (ix3 b i j) ⟨0, p⟩ = ix3 b i 0 := by
      funext a; fin_cases a <;> rfl
    refine (congrArg (fun j => min (idx j).toInt.toNat (m - 1)) (hs (by decide))).trans ?_
    show min (idx (ix3 b i 0)).toInt.toNat (m - 1) = q.val
    rw [h, toNat_word q.isLt hn]
    have := q.isLt
    omega
  · refine Fin.ext ?_
    simp (decide := true) [GatherDims.operandIdx, GatherDims.start, GatherDims.batchCoord, GatherDims.offCoord, GatherDims.siCoord, hk]

variable (V : Valuation τ sig (Elt Ideal))

/-- The patches' features layer by layer, in the arguments a valuation gives. -/
def feat (x : Vec Ideal S9x4x577x1024 .f32) (b : Fin 4) (l : Fin 9) (p : Fin 576) (d : Fin 1024) : EReal :=
  x (ix4 l b ⟨1 + p.val, by have := p.isLt; omega⟩ d)
/-- The tokens of a batch. -/
def tok (x : Vec Ideal S4x577x1024 .f32) (b : Fin 4) (p : Fin 576) (d : Fin 1024) : EReal :=
  x (ix3 b ⟨1 + p.val, by have := p.isLt; omega⟩ d)

abbrev yy (b : Fin 4) := feat (V (Proc.devRef .tc main_arg1)) b

theorem v57_at (b : Fin 4) (p : Fin 576) (d : Fin 1024) : res_main_v57 V (ix3 b p d) = Spec.pt (yy V b) p d := by
  pointwise [res_main_v57]
  rw [Consts.nine]
  rfl
theorem v62_at (b : Fin 4) (p : Fin 576) (d : Fin 1024) : res_main_v62 V (ix3 b p d) = Spec.ptn (yy V b) p d := by
  pointwise [res_main_v62]
  simp only [v57_at]
  rfl

theorem v8_at (p : Fin 576) (k : Fin 2) : res_main_v8 V (ix2 p k) = (((if k = 0 then p.val / 24 else p.val % 24 : ℕ) : ℝ) : EReal) := by
  have hp := p.isLt
  pointwise [res_main_v8]
  fin_cases k
  · show (((BitVec.ofNat 32 (p.val / 24)).toInt : ℝ) : EReal) = ((p.val / 24 : ℕ) : ℝ)
    rw [word_int (by omega)]
    rfl
  · show (((BitVec.ofNat 32 (p.val % 24)).toInt : ℝ) : EReal) = ((p.val % 24 : ℕ) : ℝ)
    rw [word_int (by omega)]
    rfl

theorem reach_at (p q : Fin 576) :
   ((subf (broadcastInDim S576x576 ![] bcast_S_S576x576 (constant S_ FTy.f32 1065353216#32))
                (minimumf
                  (Host.divf
                    (Host.sqrt
                      (Host.reduceAdd (mulf (res_main_v13 V) (res_main_v13 V)) (constant S_ FTy.f32 0#32)
                        reducesTo_S576x576x2_S576x576_d2 h_S_))
                    (broadcastInDim S576x576 ![] bcast_S_S576x576 (Host.sqrt (constant S_ FTy.f32 1133248512#32))))
                  (broadcastInDim S576x576 ![] bcast_S_S576x576 (constant S_ FTy.f32 1065353216#32)))) : FVec Ideal _ .f32) (ix2 p q) = (Spec.near p q : EReal) := by
  pointwise [res_main_v13]
  simp only [v8_at]
  rw [Fin.sum_univ_two, Consts.reach2]
  refine Eq.trans ?_ (Spec.near_div p q)
  rw [← Spec.dist_eq]
  rfl

theorem v82_at (b : Fin 4) (t : Fin 84) (p : Fin 576) : res_main_v82 V (ix3 b t p) = (if p = bench (sc V b) t then (1 : EReal) else 0) := by
  pointwise [res_main_v82]
  rw [v53_at]
  have hp := p.isLt
  have hb := (bench (sc V b) t).isLt
  show (((BitVec.ofBool (BitVec.ofNat 32 (bench (sc V b) t).val == BitVec.ofNat 32 p.val)).toNat : ℝ) : EReal) = _
  by_cases h : p = bench (sc V b) t
  · rw [← h]; simp
  · have hw : (BitVec.ofNat 32 (bench (sc V b) t).val == BitVec.ofNat 32 p.val) = false := beq_false_of_ne fun e => h (Fin.ext (by
      have h1 := congrArg BitVec.toNat e
      simp only [BitVec.toNat_ofNat] at h1
      omega))
    rw [hw, if_neg h]
    simp

theorem v91_at (b : Fin 4) (t : Fin 84) (p : Fin 576) : res_main_v91 V (ix3 b t p) = Spec.bw (sc V b) (yy V b) t p := by
  unfold res_main_v91
  refine congrArg₂ (fun x y : EReal => x * y) ((gather_row_at _ rfl rfl rfl rfl rfl rfl rfl (by decide) _ _ b t (bench (sc V b) t) p ?_).trans
    (congrArg₂ (fun x y : EReal => x * y) ?_ ?_)) ?_
  · pointwise [res_main_v88]
    rw [v53_at, word_not_neg (Fin.isLt _)]
    rfl
  · pointwise
    simp only [v62_at]
    rfl
  · refine Eq.trans ?_ (reach_at V _ _)
    pointwise
  · rw [id_eq]
    pointwise [res_main_v71]
    rw [v82_at, v68_at, v69_at, v69_at]
    by_cases h : p = bench (sc V b) t
    · rw [if_pos h, if_pos h, if_pos (by exact one_pos)]
    · rw [if_neg h, if_neg h, if_neg (lt_irrefl _)]
      rfl

/-- The reference's first result. -/
theorem v102_at (b : Fin 4) (t : Fin 84) (d : Fin 1024) :
    (Host.dotGeneral (F := Ideal) (φ₁ := .f32) (φ₂ := .f32) dot_S4x84x576_S4x576x1024_S4x84x1024_2_1_1_2_0_0 none (select (cmpf .ogt (res_main_v82 V) (broadcastInDim S4x84x576 ![] bcast_S_S4x84x576 (constant S_ .f32 0x00000000#32))) (broadcastInDim S4x84x576 ![] bcast_S_S4x84x576 (id (constant S_ .f32 0x3F800000#32))) (Host.divf (res_main_v91 V) (broadcastInDim S4x84x576 ![0, 1, 2] bcast_S4x84x1_S4x84x576_0_1_2 (addf (broadcastInDim S4x84x1 ![0, 1] bcast_S4x84_S4x84x1_0_1 (Host.reduceAdd (res_main_v91 V) (constant S_ .f32 0x00000000#32) reducesTo_S4x84x576_S4x84_d2 h_S_)) (broadcastInDim S4x84x1 ![] bcast_S_S4x84x1 (constant S_ .f32 0x322BCC77#32)))))) (extractStridedSlice S4x576x1024 ![0, 1, 0] (V (Proc.devRef .tc main_arg0)) slices_S4x577x1024_S4x576x1024_0_1_0)) (ix3 b t d)
      = Spec.agg (sc V b) (yy V b) (tok (V (Proc.devRef .tc main_arg0)) b) t d := by
  pointwise
  unfold Spec.agg
  refine Finset.sum_congr rfl fun p _ => congrArg₂ (fun x y : EReal => x * y) ?_ rfl
  simp only [v82_at, v91_at]
  rw [show (id (constant (F := Ideal) S_ FTy.f32 0x3F800000#32) ix0 : EReal) = 1 from Ideal.ofBits_one_f32]
  unfold Spec.weight
  by_cases h : p = bench (sc V b) t
  · rw [if_pos h, if_pos h, if_pos (by exact one_pos)]
  · rw [if_neg h, if_neg h, if_neg (lt_irrefl _)]

end Cert.Ref

end
-- ==== Proof.Results.lean ====
/- The kernel's two results as the problem's mathematics of its arguments. -/
module

public import proofs.«01_k».proof.Proof.IdealResult
public import proofs.«01_k».proof.Proof.Weights
public import proofs.«01_k».proof.Proof.RefB

@[expose] public section

set_option maxRecDepth 16384

noncomputable section

namespace Cert.KernelIdeal.Val

open Cert.KernelIdeal.Gen
open Idealize.ShloMosaic Idealize.ShloMosaic.TcCoe Idealize.ShloMosaic.Tactic
open Cert.Select

variable (x0 : S4x577x1024.Idx → EReal) (x1 : S9x4x577x1024.Idx → EReal) (x2 : S4x16x577x577.Idx → EReal) (b : Fin 4)

/-- A patch's position in the arguments, counted from either end of the sum. -/
theorem pos_eq (p : Fin 576) : p.succ = (⟨1 + p.val, by have := p.isLt; omega⟩ : Fin 577) := Fin.ext (Nat.add_comm _ _)

/-- The scores of a batch row are the problem's. -/
theorem scores_eq : sA (attSlab (F := Ideal) x2 b) = Cert.Ref.score x2 b := by
  funext p
  refine Finset.sum_congr rfl fun h _ => ?_
  rw [← pos_eq]
  rfl

theorem feats_eq (p : Fin 576) (d : Fin 1024) :
    sumB (F := Ideal) (fun l => layer x1 l b) (ix2 p.succ d) = ∑ l, Cert.Ref.feat x1 b l p d := by
  rw [sumB_at]
  refine Finset.sum_congr rfl fun l _ => ?_
  unfold Cert.Ref.feat
  rw [← pos_eq]
  rfl

theorem toks_eq (p : Fin 576) (d : Fin 1024) : tokSlab (F := Ideal) x0 b (ix3 0 p.succ d) = Cert.Ref.tok x0 b p d := by
  unfold Cert.Ref.tok
  rw [← pos_eq]
  rfl

variable (h : Function.Injective (Cert.Ref.score x2 b))

include h in
theorem out0_at (t : Fin 84) (d : Fin 1024) :
    out0 (F := Ideal) x0 x1 x2 (ix3 b t d) = Cert.Spec.agg (Cert.Ref.score x2 b) (Cert.Ref.feat x1 b) (Cert.Ref.tok x0 b) t d := by
  rw [← scores_eq x2 b] at h ⊢
  exact aggB_eq h (feats_eq x1 b) (toks_eq x0 b) t d

include h in
theorem out1_at (t : Fin 84) :
    out1 (F := Ideal) x2 (ix3 b 0 t) = BitVec.ofNat 32 (bench (Cert.Ref.score x2 b) t).val := by
  rw [← scores_eq x2 b] at h ⊢
  exact benchB_at h t

end Cert.KernelIdeal.Val

end
-- ==== Proof.Pre.lean ====
/- What the precondition says: in each batch no two patches have one score. -/
module

public import proofs.«01_k».proof.Pre_distinct_scores
public import proofs.«01_k».proof.Proof.RefA

@[expose] public section

noncomputable section

namespace Cert.Pre_distinct_scores

open Idealize.ShloMosaic

instance facts : Facts where
  slices_S4x16x577x577_S4x16x1x576_0_0_0_1 := by decide
  shapeCasts_S4x16x1x576_S4x16x576 := by decide
  reducesTo_S4x16x576_S4x576_d1 := by decide
  h_S_ := by decide
  bcast_S4x576_S4x576x1_0_1 := by decide
  bcast_S4x576_S4x1x576_0_2 := by decide
  bcast_S4x576x1_S4x576x576_0_1_2 := by decide
  bcast_S4x1x576_S4x576x576_0_1_2 := by decide
  bcast_S576_S576x1_0 := by decide
  bcast_S576_S1x576_1 := by decide
  bcast_S576x1_S576x576_0_1 := by decide
  bcast_S1x576_S576x576_0_1 := by decide
  bcast_S576x576_S1x576x576_1_2 := by decide
  bcast_S1x576x576_S4x576x576_0_1_2 := by decide

theorem distinct (x0 : FVec Ideal S4x577x1024 .f32) (x1 : FVec Ideal S9x4x577x1024 .f32) (x2 : FVec Ideal S4x16x577x577 .f32)
    (h : fn (F := Ideal) x0 x1 x2 = fun _ => 1#1) (b : Fin 4) : Function.Injective (Cert.Ref.score x2 b) := by
  intro p q e
  have h' := congrFun h (ix3 b p q)
  unfold fn at h'
  pointwise at h'
  have he : ∑ k, x2 (ix4 b k 0 ⟨1 + p.val, by have := p.isLt; omega⟩) = ∑ k, x2 (ix4 b k 0 ⟨1 + q.val, by have := q.isLt; omega⟩) := e
  rw [show decide (∑ k, x2 (ix4 b k 0 ⟨1 + p.val, by have := p.isLt; omega⟩) ≠ ∑ k, x2 (ix4 b k 0 ⟨1 + q.val, by have := q.isLt; omega⟩)) = false
    from decide_eq_false (not_not.mpr he)] at h'
  by_contra hpq
  have hw : BitVec.ofNat 32 p.val ≠ BitVec.ofNat 32 q.val := fun hw => hpq (Fin.ext (by
    have h1 := congrArg BitVec.toNat hw
    have h2 := p.isLt
    have h3 := q.isLt
    simp only [BitVec.toNat_ofNat] at h1
    omega))
  have hc : IntOp.cmpi .eq (BitVec.ofNat 32 p.val) (BitVec.ofNat 32 q.val) = 0#1 := by
    unfold IntOp.cmpi
    show BitVec.ofBool (BitVec.ofNat 32 p.val == BitVec.ofNat 32 q.val) = 0#1
    rw [beq_false_of_ne hw]
    rfl
  rw [hc] at h'
  exact absurd h' (by decide)

end Cert.Pre_distinct_scores

end
-- ==== Proof.lean ====
/- The certificate's claims, each from the module that proves it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelLaunch
public import proofs.«01_k».proof.Proof.IdealFrame
public import proofs.«01_k».proof.Proof.Results
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel ends without fault, with its arguments unchanged and every semaphore counter at zero. -/
theorem quiet_kernel : Cert.quiescent_Kernel (hKernel := Cert.Kernel.Gen.facts) := fun m ρ _ =>
  Cert.Kernel.Own.frame m ρ

/-- So does the idealized kernel. -/
theorem quiet_ideal : Cert.quiescent_KernelIdeal (hKernelIdeal := Cert.KernelIdeal.Gen.facts) := fun m ρ _ =>
  Cert.KernelIdeal.Val.frame m ρ

/-- So does the reference, which has no semaphores. -/
theorem quiet_reference : Cert.quiescent_ReferenceIdeal (hReferenceIdeal := Cert.ReferenceIdeal.Gen.facts) := fun m ρ _ =>
  (θ_run Cert.ReferenceIdeal.defs _ _).mono (fun r h => ⟨fun c => (h c).2.2,
    Idealize.ShloMosaic.sem_eq_zero_of_no_sems (by decide) r.2⟩) (Cert.ReferenceIdeal.Value.run (F := Ideal) m ρ)

/-- The two named constants are the reals whose roundings the kernel's literals are. -/
theorem constants : Cert.preserves_Kernel_KernelIdeal :=
  ⟨IdealRules.named_const.statement Cert.KernelIdeal.κ "inv_layers" .f32 0x3DE38E39#32 ((9⁻¹:ℝ):EReal) rfl,
   IdealRules.named_const.statement Cert.KernelIdeal.κ "inv_reach" .f32 0x3D74C867#32 (((Real.sqrt 280)⁻¹ : ℝ) : EReal) rfl⟩

/-- Where the scores of every batch row differ, the kernel's two results are the reference's. -/
theorem values : Cert.algebraic_KernelIdeal_ReferenceIdeal_pre_distinct_scores (hKernelIdeal := Cert.KernelIdeal.Gen.facts)
    (hReferenceIdeal := Cert.ReferenceIdeal.Gen.facts) (hPre_distinct_scores := Cert.Pre_distinct_scores.facts) := by
  intro m ρ m' ρ' hpre hagree
  have hs (c : Dev Cert.KernelIdeal.nD) (b : Fin 4) := Cert.Pre_distinct_scores.distinct _ _ _ (hpre c) b
  refine ⟨_, _, Cert.KernelIdeal.Val.result (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · funext i
    obtain ⟨b, t, d, rfl⟩ : ∃ (b : Fin 4) (t : Fin 84) (d : Fin 1024), i = ix3 b t d := ⟨i 0, i 1, i 2, eq_ix3 i⟩
    refine (Cert.Ref.v102_at (StableHlo.launchContents m' c) b t d).trans ?_
    rw [Cert.KernelIdeal.Val.V_main_arg0, Cert.KernelIdeal.Val.V_main_arg1, Cert.KernelIdeal.Val.V_main_arg2]
    refine Eq.trans ?_ (Cert.KernelIdeal.Val.out0_at _ _ _ b (hs c b) t d).symm
    rw [← (hagree c).1, ← (hagree c).2.1, ← (hagree c).2.2]
  · funext i
    obtain ⟨b, t, rfl⟩ : ∃ (b : Fin 4) (t : Fin 84), i = ix2 b t := ⟨i 0, i 1, eq_ix2 i⟩
    refine (Cert.Ref.v53_at (StableHlo.launchContents m' c) b t).trans ?_
    refine Eq.trans ?_ (Cert.KernelIdeal.Val.tail1 m c b t).symm
    rw [Cert.KernelIdeal.Val.V_main_arg2]
    refine Eq.trans ?_ (Cert.KernelIdeal.Val.out1_at _ b (hs c b) t).symm
    rw [← (hagree c).2.2]

/-- All the claims of the statement. -/
theorem claim : Cert.Claim := ⟨Cert.Kernel.Gen.facts, Cert.KernelIdeal.Gen.facts, Cert.ReferenceIdeal.Gen.facts, Cert.Pre_distinct_scores.facts,
  quiet_kernel, quiet_ideal, fun m ρ _ => quiet_ideal m ρ trivial, quiet_reference, fun m ρ _ => quiet_reference m ρ trivial, constants, values⟩

end Cert.Proof

end
